-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_hgrn_domain [hPre_hgrn_domain : Cert.Pre_hgrn_domain.Facts] (m : (ℓ : Loc Cert.KernelIdeal.nD Cert.KernelIdeal.τ Cert.KernelIdeal.sig) → Buf (Elt Ideal) ℓ) : Prop :=
  ∀ c : Dev Cert.KernelIdeal.nD,
    (Cert.Pre_hgrn_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_hgrn_domain [hPre_hgrn_domain : Cert.Pre_hgrn_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_hgrn_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInReferenceIdeal (m : (ℓ : Loc Cert.MixInReferenceIdeal.nD Cert.MixInReferenceIdeal.τ Cert.MixInReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_hgrn_domain [hKernelIdeal : Cert.KernelIdeal.Facts] [hPre_hgrn_domain : Cert.Pre_hgrn_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_hgrn_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_hgrn_domain [hReferenceIdeal : Cert.ReferenceIdeal.Facts] [hPre_hgrn_domain : Cert.Pre_hgrn_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_hgrn_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4)
      ∧ r.2.mem ((c.tc : Thread Cert.MixIn.nD Cert.MixIn.τ).loc Cert.MixIn.main_arg5) = m ((c.tc : Thread Cert.MixIn.nD Cert.MixIn.τ).loc Cert.MixIn.main_arg5))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5))
      ∧ r.2.sem = fun _ => 0)

def quiescent_MixInReferenceIdeal [hMixInReferenceIdeal : Cert.MixInReferenceIdeal.Facts] : Prop :=
  ∀ (m : (ℓ : Loc Cert.MixInReferenceIdeal.nD Cert.MixInReferenceIdeal.τ Cert.MixInReferenceIdeal.sig) → Buf (Elt Ideal) ℓ) (g : Dev Cert.MixInReferenceIdeal.nD → PrngReg), Pre_MixInReferenceIdeal m →
    θ_run (Cert.MixInReferenceIdeal.defs (F := Ideal)) (onTc (τ := Cert.MixInReferenceIdeal.τ) (Cert.MixInReferenceIdeal.main (F := Ideal))) ⟨m, fun _ => 0, g⟩ (fun r => (∀ c : Dev Cert.MixInReferenceIdeal.nD,
      r.2.mem ((c.tc : Thread Cert.MixInReferenceIdeal.nD Cert.MixInReferenceIdeal.τ).loc Cert.MixInReferenceIdeal.main_arg0) = m ((c.tc : Thread Cert.MixInReferenceIdeal.nD Cert.MixInReferenceIdeal.τ).loc Cert.MixInReferenceIdeal.main_arg0)
      ∧ r.2.mem ((c.tc : Thread Cert.MixInReferenceIdeal.nD Cert.MixInReferenceIdeal.τ).loc Cert.MixInReferenceIdeal.main_arg1) = m ((c.tc : Thread Cert.MixInReferenceIdeal.nD Cert.MixInReferenceIdeal.τ).loc Cert.MixInReferenceIdeal.main_arg1)
      ∧ r.2.mem ((c.tc : Thread Cert.MixInReferenceIdeal.nD Cert.MixInReferenceIdeal.τ).loc Cert.MixInReferenceIdeal.main_arg2) = m ((c.tc : Thread Cert.MixInReferenceIdeal.nD Cert.MixInReferenceIdeal.τ).loc Cert.MixInReferenceIdeal.main_arg2)
      ∧ r.2.mem ((c.tc : Thread Cert.MixInReferenceIdeal.nD Cert.MixInReferenceIdeal.τ).loc Cert.MixInReferenceIdeal.main_arg3) = m ((c.tc : Thread Cert.MixInReferenceIdeal.nD Cert.MixInReferenceIdeal.τ).loc Cert.MixInReferenceIdeal.main_arg3)
      ∧ r.2.mem ((c.tc : Thread Cert.MixInReferenceIdeal.nD Cert.MixInReferenceIdeal.τ).loc Cert.MixInReferenceIdeal.main_arg4) = m ((c.tc : Thread Cert.MixInReferenceIdeal.nD Cert.MixInReferenceIdeal.τ).loc Cert.MixInReferenceIdeal.main_arg4)
      ∧ r.2.mem ((c.tc : Thread Cert.MixInReferenceIdeal.nD Cert.MixInReferenceIdeal.τ).loc Cert.MixInReferenceIdeal.main_arg5) = m ((c.tc : Thread Cert.MixInReferenceIdeal.nD Cert.MixInReferenceIdeal.τ).loc Cert.MixInReferenceIdeal.main_arg5))
      ∧ r.2.sem = fun _ => 0)

def preserves_Kernel_KernelIdeal : Prop :=
  True

def algebraic_KernelIdeal_ReferenceIdeal_pre_hgrn_domain [hKernelIdeal : Cert.KernelIdeal.Facts] [hReferenceIdeal : Cert.ReferenceIdeal.Facts] [hPre_hgrn_domain : Cert.Pre_hgrn_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_hgrn_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v20) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v37) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_MixIn_MixInIdeal : Prop :=
  True

def algebraic_MixInIdeal_MixInReferenceIdeal [hMixInIdeal : Cert.MixInIdeal.Facts] [hMixInReferenceIdeal : Cert.MixInReferenceIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInReferenceIdeal.nD Cert.MixInReferenceIdeal.τ Cert.MixInReferenceIdeal.sig) → Buf (Elt Ideal) ℓ) (g' : Dev Cert.MixInReferenceIdeal.nD → PrngReg), Pre_MixInIdeal m →
    (∀ c : Dev Cert.MixInIdeal.nD,
      m' ((c.tc : Thread Cert.MixInReferenceIdeal.nD Cert.MixInReferenceIdeal.τ).loc Cert.MixInReferenceIdeal.main_arg0) = m ((c.tc : Thread Cert.MixInIdeal.nD Cert.MixInIdeal.τ).loc Cert.MixInIdeal.main_arg0)
      ∧ m' ((c.tc : Thread Cert.MixInReferenceIdeal.nD Cert.MixInReferenceIdeal.τ).loc Cert.MixInReferenceIdeal.main_arg1) = m ((c.tc : Thread Cert.MixInIdeal.nD Cert.MixInIdeal.τ).loc Cert.MixInIdeal.main_arg1)
      ∧ m' ((c.tc : Thread Cert.MixInReferenceIdeal.nD Cert.MixInReferenceIdeal.τ).loc Cert.MixInReferenceIdeal.main_arg2) = m ((c.tc : Thread Cert.MixInIdeal.nD Cert.MixInIdeal.τ).loc Cert.MixInIdeal.main_arg2)
      ∧ m' ((c.tc : Thread Cert.MixInReferenceIdeal.nD Cert.MixInReferenceIdeal.τ).loc Cert.MixInReferenceIdeal.main_arg3) = m ((c.tc : Thread Cert.MixInIdeal.nD Cert.MixInIdeal.τ).loc Cert.MixInIdeal.main_arg3)
      ∧ m' ((c.tc : Thread Cert.MixInReferenceIdeal.nD Cert.MixInReferenceIdeal.τ).loc Cert.MixInReferenceIdeal.main_arg4) = m ((c.tc : Thread Cert.MixInIdeal.nD Cert.MixInIdeal.τ).loc Cert.MixInIdeal.main_arg4)
      ∧ m' ((c.tc : Thread Cert.MixInReferenceIdeal.nD Cert.MixInReferenceIdeal.τ).loc Cert.MixInReferenceIdeal.main_arg5) = m ((c.tc : Thread Cert.MixInIdeal.nD Cert.MixInIdeal.τ).loc Cert.MixInIdeal.main_arg5)) →
    ∃ (v0 : (c : Dev Cert.MixInIdeal.nD) → Buf (Elt Ideal) ((c.tc : Thread Cert.MixInIdeal.nD Cert.MixInIdeal.τ).loc Cert.MixInIdeal.main_v50_0)) (v1 : (c : Dev Cert.MixInIdeal.nD) → Buf (Elt Ideal) ((c.tc : Thread Cert.MixInIdeal.nD Cert.MixInIdeal.τ).loc Cert.MixInIdeal.main_v50_1)) (v2 : (c : Dev Cert.MixInIdeal.nD) → Buf (Elt Ideal) ((c.tc : Thread Cert.MixInIdeal.nD Cert.MixInIdeal.τ).loc Cert.MixInIdeal.main_v50_2)) (v3 : (c : Dev Cert.MixInIdeal.nD) → Buf (Elt Ideal) ((c.tc : Thread Cert.MixInIdeal.nD Cert.MixInIdeal.τ).loc Cert.MixInIdeal.main_v50_3)) (v4 : (c : Dev Cert.MixInIdeal.nD) → Buf (Elt Ideal) ((c.tc : Thread Cert.MixInIdeal.nD Cert.MixInIdeal.τ).loc Cert.MixInIdeal.main_v50_4)) (v5 : (c : Dev Cert.MixInIdeal.nD) → Buf (Elt Ideal) ((c.tc : Thread Cert.MixInIdeal.nD Cert.MixInIdeal.τ).loc Cert.MixInIdeal.main_v50_5)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v50_0) = v0 c
          ∧ r.2.mem ((c.tc : Thread Cert.MixInIdeal.nD Cert.MixInIdeal.τ).loc Cert.MixInIdeal.main_v50_1) = v1 c
          ∧ r.2.mem ((c.tc : Thread Cert.MixInIdeal.nD Cert.MixInIdeal.τ).loc Cert.MixInIdeal.main_v50_2) = v2 c
          ∧ r.2.mem ((c.tc : Thread Cert.MixInIdeal.nD Cert.MixInIdeal.τ).loc Cert.MixInIdeal.main_v50_3) = v3 c
          ∧ r.2.mem ((c.tc : Thread Cert.MixInIdeal.nD Cert.MixInIdeal.τ).loc Cert.MixInIdeal.main_v50_4) = v4 c
          ∧ r.2.mem ((c.tc : Thread Cert.MixInIdeal.nD Cert.MixInIdeal.τ).loc Cert.MixInIdeal.main_v50_5) = v5 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
          ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5))
      ∧ θ_run (Cert.MixInReferenceIdeal.defs (F := Ideal)) (onTc (τ := Cert.MixInReferenceIdeal.τ) (Cert.MixInReferenceIdeal.main (F := Ideal))) ⟨m', fun _ => 0, g'⟩ (fun r => ∀ c : Dev Cert.MixInReferenceIdeal.nD,
          r.2.mem ((c.tc : Thread Cert.MixInReferenceIdeal.nD Cert.MixInReferenceIdeal.τ).loc Cert.MixInReferenceIdeal.main_v130) = v0 c
          ∧ r.2.mem ((c.tc : Thread Cert.MixInReferenceIdeal.nD Cert.MixInReferenceIdeal.τ).loc Cert.MixInReferenceIdeal.main_v132) = v1 c
          ∧ r.2.mem ((c.tc : Thread Cert.MixInReferenceIdeal.nD Cert.MixInReferenceIdeal.τ).loc Cert.MixInReferenceIdeal.main_v134) = v2 c
          ∧ r.2.mem ((c.tc : Thread Cert.MixInReferenceIdeal.nD Cert.MixInReferenceIdeal.τ).loc Cert.MixInReferenceIdeal.main_v135) = v3 c
          ∧ r.2.mem ((c.tc : Thread Cert.MixInReferenceIdeal.nD Cert.MixInReferenceIdeal.τ).loc Cert.MixInReferenceIdeal.main_v136) = v4 c
          ∧ r.2.mem ((c.tc : Thread Cert.MixInReferenceIdeal.nD Cert.MixInReferenceIdeal.τ).loc Cert.MixInReferenceIdeal.main_v137) = v5 c
          ∧ r.2.mem ((c.tc : Thread Cert.MixInReferenceIdeal.nD Cert.MixInReferenceIdeal.τ).loc Cert.MixInReferenceIdeal.main_arg0) = m' ((c.tc : Thread Cert.MixInReferenceIdeal.nD Cert.MixInReferenceIdeal.τ).loc Cert.MixInReferenceIdeal.main_arg0)
          ∧ r.2.mem ((c.tc : Thread Cert.MixInReferenceIdeal.nD Cert.MixInReferenceIdeal.τ).loc Cert.MixInReferenceIdeal.main_arg1) = m' ((c.tc : Thread Cert.MixInReferenceIdeal.nD Cert.MixInReferenceIdeal.τ).loc Cert.MixInReferenceIdeal.main_arg1)
          ∧ r.2.mem ((c.tc : Thread Cert.MixInReferenceIdeal.nD Cert.MixInReferenceIdeal.τ).loc Cert.MixInReferenceIdeal.main_arg2) = m' ((c.tc : Thread Cert.MixInReferenceIdeal.nD Cert.MixInReferenceIdeal.τ).loc Cert.MixInReferenceIdeal.main_arg2)
          ∧ r.2.mem ((c.tc : Thread Cert.MixInReferenceIdeal.nD Cert.MixInReferenceIdeal.τ).loc Cert.MixInReferenceIdeal.main_arg3) = m' ((c.tc : Thread Cert.MixInReferenceIdeal.nD Cert.MixInReferenceIdeal.τ).loc Cert.MixInReferenceIdeal.main_arg3)
          ∧ r.2.mem ((c.tc : Thread Cert.MixInReferenceIdeal.nD Cert.MixInReferenceIdeal.τ).loc Cert.MixInReferenceIdeal.main_arg4) = m' ((c.tc : Thread Cert.MixInReferenceIdeal.nD Cert.MixInReferenceIdeal.τ).loc Cert.MixInReferenceIdeal.main_arg4)
          ∧ r.2.mem ((c.tc : Thread Cert.MixInReferenceIdeal.nD Cert.MixInReferenceIdeal.τ).loc Cert.MixInReferenceIdeal.main_arg5) = m' ((c.tc : Thread Cert.MixInReferenceIdeal.nD Cert.MixInReferenceIdeal.τ).loc Cert.MixInReferenceIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hMixIn : Cert.MixIn.Facts) (hMixInIdeal : Cert.MixInIdeal.Facts) (hMixInReferenceIdeal : Cert.MixInReferenceIdeal.Facts) (hPre_hgrn_domain : Cert.Pre_hgrn_domain.Facts),
    quiescent_Kernel (hKernel := hKernel)
    ∧ quiescent_KernelIdeal (hKernelIdeal := hKernelIdeal)
    ∧ quiescent_KernelIdeal_pre_hgrn_domain (hKernelIdeal := hKernelIdeal) (hPre_hgrn_domain := hPre_hgrn_domain)
    ∧ quiescent_ReferenceIdeal (hReferenceIdeal := hReferenceIdeal)
    ∧ quiescent_ReferenceIdeal_pre_hgrn_domain (hReferenceIdeal := hReferenceIdeal) (hPre_hgrn_domain := hPre_hgrn_domain)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_MixIn (hMixIn := hMixIn)
    ∧ quiescent_MixInIdeal (hMixInIdeal := hMixInIdeal)
    ∧ quiescent_MixInReferenceIdeal (hMixInReferenceIdeal := hMixInReferenceIdeal)
    ∧ preserves_Kernel_KernelIdeal
    ∧ algebraic_KernelIdeal_ReferenceIdeal_pre_hgrn_domain (hKernelIdeal := hKernelIdeal) (hReferenceIdeal := hReferenceIdeal) (hPre_hgrn_domain := hPre_hgrn_domain)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_MixIn_MixInIdeal
    ∧ algebraic_MixInIdeal_MixInReferenceIdeal (hMixInIdeal := hMixInIdeal) (hMixInReferenceIdeal := hMixInReferenceIdeal)
-- ==== Pre_hgrn_domain.lean ====
abbrev S2x8192x2048 : Shape := ⟨3, ![2, 8192, 2048]⟩
abbrev S128 : Shape := ⟨1, ![128]⟩
abbrev S512 : Shape := ⟨1, ![512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : FVec F S2x8192x2048 .f32) (main_arg1 : FVec F S128 .f32) (main_arg2 : FVec F S512 .f32) : IVec S_ 1 :=
  let main_cst : FVec F S_ .f32 := constant S_ .f32 0x00000000#32
  let main_v0 : FVec F S512 .f32 := broadcastInDim S512 ![] bcast_S_S512 main_cst
  let main_v1 : IVec S512 1 := cmpf .oge main_arg2 main_v0
  let main_cst_0 : FVec F S_ .f32 := constant S_ .f32 0x3F800000#32
  let main_v2 : FVec F S512 .f32 := broadcastInDim S512 ![] bcast_S_S512 main_cst_0
  let main_v3 : IVec S512 1 := cmpf .ole main_arg2 main_v2
  let main_v4 : IVec S512 1 := andi main_v1 main_v3
  let main_c : IVec S_ 1 := constantI S_ 1 1#1
  let main_v5 : IVec S_ 1 := (fun x v => Host.reduce IntOp.andi x v reducesTo_S512_S_d0 h_S_) main_v4 main_c
  main_v5
-- ==== Kernel.lean ====
abbrev S2x8192x2048 : Shape := ⟨3, ![2, 8192, 2048]⟩
abbrev S128 : Shape := ⟨1, ![128]⟩
abbrev S512 : Shape := ⟨1, ![512]⟩
abbrev S_ : Shape := ⟨0, ![]⟩
abbrev S8x512 : Shape := ⟨2, ![8, 512]⟩
abbrev S1 : Shape := ⟨1, ![1]⟩
abbrev S1x128 : Shape := ⟨2, ![1, 128]⟩
abbrev S4x128 : Shape := ⟨2, ![4, 128]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S16384x2048 : Shape := ⟨2, ![16384, 2048]⟩
abbrev S16384x512 : Shape := ⟨2, ![16384, 512]⟩
abbrev S64x512 : Shape := ⟨2, ![64, 512]⟩
abbrev S4x128x128 : Shape := ⟨3, ![4, 128, 128]⟩
abbrev S1x512 : Shape := ⟨2, ![1, 512]⟩
abbrev S16x1 : Shape := ⟨2, ![16, 1]⟩
abbrev S16x16 : Shape := ⟨2, ![16, 16]⟩
abbrev S64x128 : Shape := ⟨2, ![64, 128]⟩
abbrev S1x128x128 : Shape := ⟨3, ![1, 128, 128]⟩
abbrev S128x128 : Shape := ⟨2, ![128, 128]⟩
abbrev S16x128 : Shape := ⟨2, ![16, 128]⟩
abbrev S16 : Shape := ⟨1, ![16]⟩
abbrev S32x128 : Shape := ⟨2, ![32, 128]⟩
abbrev S16x32 : Shape := ⟨2, ![16, 32]⟩
abbrev S48x128 : Shape := ⟨2, ![48, 128]⟩
abbrev S16x48 : Shape := ⟨2, ![16, 48]⟩
abbrev S128x64 : Shape := ⟨2, ![128, 64]⟩

abbrev nBuf : Space → Nat
  | .hbm => 35
  | .vmem => 13
  | .smem => 0
  | _ => 0

abbrev bufTy : (tb : Table) → Fin (tcTables nBuf tb) → BufTy
  | .hbm, ⟨0, _⟩ => ⟨S2x8192x2048, .f32⟩
  | .hbm, ⟨1, _⟩ => ⟨S128, .f32⟩
  | .hbm, ⟨2, _⟩ => ⟨S512, .f32⟩
  | .hbm, ⟨3, _⟩ => ⟨S_, .f32⟩
  | .hbm, ⟨4, _⟩ => ⟨S8x512, .f32⟩
  | .hbm, ⟨5, _⟩ => ⟨S512, .f32⟩
  | .hbm, ⟨6, _⟩ => ⟨S_, .i32⟩
  | .hbm, ⟨7, _⟩ => ⟨S1, .i32⟩
  | .hbm, ⟨8, _⟩ => ⟨S8x512, .f32⟩
  | .hbm, ⟨9, _⟩ => ⟨S512, .f32⟩
  | .hbm, ⟨10, _⟩ => ⟨S512, .f32⟩
  | .hbm, ⟨11, _⟩ => ⟨S_, .i32⟩
  | .hbm, ⟨12, _⟩ => ⟨S1, .i32⟩
  | .hbm, ⟨13, _⟩ => ⟨S8x512, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S_, .i32⟩
  | .hbm, ⟨18, _⟩ => ⟨S1, .i32⟩
  | .hbm, ⟨19, _⟩ => ⟨S8x512, .f32⟩
  | .hbm, ⟨20, _⟩ => ⟨S1x128, .f32⟩
  | .hbm, ⟨21, _⟩ => ⟨S4x128, .f32⟩
  | .hbm, ⟨22, _⟩ => ⟨S512, .f32⟩
  | .hbm, ⟨23, _⟩ => ⟨S_, .i32⟩
  | .hbm, ⟨24, _⟩ => ⟨S1, .i32⟩
  | .hbm, ⟨25, _⟩ => ⟨S8x512, .f32⟩
  | .hbm, ⟨26, _⟩ => ⟨S64, .i32⟩
  | .hbm, ⟨27, _⟩ => ⟨S1x64, .i32⟩
  | .hbm, ⟨28, _⟩ => ⟨S64x1, .i32⟩
  | .hbm, ⟨29, _⟩ => ⟨S64x64, .i32⟩
  | .hbm, ⟨30, _⟩ => ⟨S64x64, .i32⟩
  | .hbm, ⟨31, _⟩ => ⟨S64x64, .i1⟩
  | .hbm, ⟨32, _⟩ => ⟨S64x64, .f32⟩
  | .hbm, ⟨33, _⟩ => ⟨S16384x2048, .f32⟩
  | .hbm, ⟨34, _⟩ => ⟨S16384x512, .bf16⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S8x512, .f32⟩
  | .local _ .vmem, ⟨9, _⟩ => ⟨S64x64, .f32⟩
  | .local _ .vmem, ⟨10, _⟩ => ⟨S64x512, .bf16⟩
  | .local _ .vmem, ⟨11, _⟩ => ⟨S64x512, .bf16⟩
  | .local _ .vmem, ⟨12, _⟩ => ⟨S4x128x128, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 128], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x8192x2048 : Shape := ⟨3, ![2, 8192, 2048]⟩
abbrev S128 : Shape := ⟨1, ![128]⟩
abbrev S512 : Shape := ⟨1, ![512]⟩
abbrev S2x8192x512 : Shape := ⟨3, ![2, 8192, 512]⟩
abbrev S4x128 : Shape := ⟨2, ![4, 128]⟩
abbrev S2x8192x4x128 : Shape := ⟨4, ![2, 8192, 4, 128]⟩
abbrev S_ : Shape := ⟨0, ![]⟩
abbrev S1x1x4x128 : Shape := ⟨4, ![1, 1, 4, 128]⟩
abbrev S2x128x64x4x128 : Shape := ⟨5, ![2, 128, 64, 4, 128]⟩
abbrev S128x2x4x64x128 : Shape := ⟨5, ![128, 2, 4, 64, 128]⟩
abbrev S64x64 : Shape := ⟨2, ![64, 64]⟩
abbrev S2x4x128x128 : Shape := ⟨4, ![2, 4, 128, 128]⟩
abbrev S1x2x4x64x128 : Shape := ⟨5, ![1, 2, 4, 64, 128]⟩
abbrev S2x4x64x128 : Shape := ⟨4, ![2, 4, 64, 128]⟩
abbrev S2x4x64x1x128 : Shape := ⟨5, ![2, 4, 64, 1, 128]⟩
abbrev S2x4x1x64x128 : Shape := ⟨5, ![2, 4, 1, 64, 128]⟩
abbrev S2x4x64x64x128 : Shape := ⟨5, ![2, 4, 64, 64, 128]⟩
abbrev S64x64x1 : Shape := ⟨3, ![64, 64, 1]⟩
abbrev S2x4x64x64 : Shape := ⟨4, ![2, 4, 64, 64]⟩
abbrev S2x4x1x128 : Shape := ⟨4, ![2, 4, 1, 128]⟩
abbrev S2x4x128 : Shape := ⟨3, ![2, 4, 128]⟩
abbrev S2x4x128x1 : Shape := ⟨4, ![2, 4, 128, 1]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩
abbrev S16384x512 : Shape := ⟨2, ![16384, 512]⟩

abbrev nBuf : Space → Nat
  | .hbm => 194
  | .vmem => 0
  | .smem => 0
  | _ => 0

abbrev hbmTy0_0 (i : Nat) : BufTy := match i % 128 with
  | 0 => ⟨S2x8192x2048, .f32⟩
  | 1 => ⟨S128, .f32⟩
  | 2 => ⟨S512, .f32⟩
  | 3 => ⟨S2x8192x512, .f32⟩
  | 4 => ⟨S2x8192x512, .f32⟩
  | 5 => ⟨S2x8192x512, .f32⟩
  | 6 => ⟨S2x8192x512, .f32⟩
  | 7 => ⟨S4x128, .f32⟩
  | 8 => ⟨S2x8192x4x128, .f32⟩
  | 9 => ⟨S4x128, .f32⟩
  | 10 => ⟨S4x128, .f32⟩
  | 11 => ⟨S4x128, .f32⟩
  | 12 => ⟨S2x8192x4x128, .f32⟩
  | 13 => ⟨S_, .f32⟩
  | 14 => ⟨S2x8192x4x128, .f32⟩
  | 15 => ⟨S2x8192x4x128, .f32⟩
  | 16 => ⟨S2x8192x4x128, .f32⟩
  | 17 => ⟨S2x8192x4x128, .f32⟩
  | 18 => ⟨S2x8192x4x128, .i1⟩
  | 19 => ⟨S2x8192x4x128, .f32⟩
  | 20 => ⟨S2x8192x4x128, .f32⟩
  | 21 => ⟨S2x8192x4x128, .f32⟩
  | 22 => ⟨S2x8192x4x128, .f32⟩
  | 23 => ⟨S2x8192x4x128, .f32⟩
  | 24 => ⟨S2x8192x4x128, .f32⟩
  | 25 => ⟨S2x8192x4x128, .f32⟩
  | 26 => ⟨S2x8192x4x128, .f32⟩
  | 27 => ⟨S2x8192x4x128, .f32⟩
  | 28 => ⟨S1x1x4x128, .f32⟩
  | 29 => ⟨S2x8192x4x128, .f32⟩
  | 30 => ⟨S2x8192x4x128, .f32⟩
  | 31 => ⟨S1x1x4x128, .f32⟩
  | 32 => ⟨S2x8192x4x128, .f32⟩
  | 33 => ⟨S2x8192x4x128, .f32⟩
  | 34 => ⟨S2x8192x4x128, .f32⟩
  | 35 => ⟨S2x8192x4x128, .f32⟩
  | 36 => ⟨S2x8192x4x128, .i1⟩
  | 37 => ⟨S2x8192x4x128, .f32⟩
  | 38 => ⟨S2x8192x4x128, .f32⟩
  | 39 => ⟨S2x8192x4x128, .f32⟩
  | 40 => ⟨S2x8192x4x128, .f32⟩
  | 41 => ⟨S2x8192x4x128, .f32⟩
  | 42 => ⟨S2x8192x4x128, .f32⟩
  | 43 => ⟨S2x8192x4x128, .f32⟩
  | 44 => ⟨S2x8192x4x128, .f32⟩
  | 45 => ⟨S2x8192x4x128, .f32⟩
  | 46 => ⟨S2x8192x4x128, .f32⟩
  | 47 => ⟨S2x8192x512, .f32⟩
  | 48 => ⟨S2x8192x512, .f32⟩
  | 49 => ⟨S_, .f32⟩
  | 50 => ⟨S2x8192x512, .f32⟩
  | 51 => ⟨S2x8192x512, .f32⟩
  | 52 => ⟨S_, .f32⟩
  | 53 => ⟨S2x8192x512, .f32⟩
  | 54 => ⟨S2x8192x512, .f32⟩
  | 55 => ⟨S2x8192x512, .f32⟩
  | 56 => ⟨S2x8192x4x128, .f32⟩
  | 57 => ⟨S2x8192x4x128, .f32⟩
  | 58 => ⟨S2x128x64x4x128, .f32⟩
  | 59 => ⟨S128x2x4x64x128, .f32⟩
  | 60 => ⟨S_, .f32⟩
  | 61 => ⟨S_, .f32⟩
  | 62 => ⟨S128x2x4x64x128, .f32⟩
  | 63 => ⟨S_, .i1⟩
  | 64 => ⟨S64x64, .i1⟩
  | 65 => ⟨S64x64, .i32⟩
  | 66 => ⟨S_, .i32⟩
  | 67 => ⟨S64x64, .i32⟩
  | 68 => ⟨S64x64, .i32⟩
  | 69 => ⟨S64x64, .i32⟩
  | 70 => ⟨S64x64, .i1⟩
  | 71 => ⟨S_, .i1⟩
  | 72 => ⟨S64x64, .i1⟩
  | 73 => ⟨S64x64, .i1⟩
  | 74 => ⟨S_, .f32⟩
  | 75 => ⟨S2x4x128x128, .f32⟩
  | 76 => ⟨S2x128x64x4x128, .f32⟩
  | 77 => ⟨S128x2x4x64x128, .f32⟩
  | 78 => ⟨S2x128x64x4x128, .f32⟩
  | 79 => ⟨S128x2x4x64x128, .f32⟩
  | 80 => ⟨S2x128x64x4x128, .f32⟩
  | 81 => ⟨S128x2x4x64x128, .f32⟩
  | 82 => ⟨S_, .f32⟩
  | 83 => ⟨S128x2x4x64x128, .f32⟩
  | 84 => ⟨S_, .i32⟩
  | 85 => ⟨S128x2x4x64x128, .f32⟩
  | 86 => ⟨S128x2x4x64x128, .f32⟩
  | 87 => ⟨S128x2x4x64x128, .f32⟩
  | 88 => ⟨S128x2x4x64x128, .f32⟩
  | 89 => ⟨S64x64, .i1⟩
  | 90 => ⟨S_, .i32⟩
  | 91 => ⟨S2x4x128x128, .f32⟩
  | 92 => ⟨S128x2x4x64x128, .f32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S1x2x4x64x128, .f32⟩
  | 100 => ⟨S2x4x64x128, .f32⟩
  | 101 => ⟨S_, .i32⟩
  | 102 => ⟨S_, .i32⟩
  | 103 => ⟨S_, .i32⟩
  | 104 => ⟨S_, .i32⟩
  | 105 => ⟨S1x2x4x64x128, .f32⟩
  | 106 => ⟨S2x4x64x128, .f32⟩
  | 107 => ⟨S_, .i32⟩
  | 108 => ⟨S_, .i32⟩
  | 109 => ⟨S_, .i32⟩
  | 110 => ⟨S_, .i32⟩
  | 111 => ⟨S1x2x4x64x128, .f32⟩
  | 112 => ⟨S2x4x64x128, .f32⟩
  | 113 => ⟨S_, .i32⟩
  | 114 => ⟨S_, .i32⟩
  | 115 => ⟨S_, .i32⟩
  | 116 => ⟨S_, .i32⟩
  | 117 => ⟨S1x2x4x64x128, .f32⟩
  | 118 => ⟨S2x4x64x128, .f32⟩
  | 119 => ⟨S2x4x64x128, .f32⟩
  | 120 => ⟨S2x4x64x128, .f32⟩
  | 121 => ⟨S2x4x64x128, .f32⟩
  | 122 => ⟨S2x4x64x1x128, .f32⟩
  | 123 => ⟨S2x4x1x64x128, .f32⟩
  | 124 => ⟨S2x4x64x64x128, .f32⟩
  | 125 => ⟨S2x4x64x64x128, .f32⟩
  | 126 => ⟨S2x4x64x64x128, .f32⟩
  | 127 => ⟨S64x64x1, .i1⟩
  | _ => ⟨S2x8192x2048, .f32⟩

abbrev hbmTy0_1 (i : Nat) : BufTy := match i % 128 with
  | 0 => ⟨S_, .f32⟩
  | 1 => ⟨S_, .f32⟩
  | 2 => ⟨S2x4x64x64x128, .i1⟩
  | 3 => ⟨S2x4x64x64x128, .f32⟩
  | 4 => ⟨S2x4x64x64x128, .f32⟩
  | 5 => ⟨S2x4x64x64x128, .f32⟩
  | 6 => ⟨S2x4x64x1x128, .f32⟩
  | 7 => ⟨S2x4x1x64x128, .f32⟩
  | 8 => ⟨S2x4x64x64x128, .f32⟩
  | 9 => ⟨S2x4x64x64x128, .f32⟩
  | 10 => ⟨S2x4x64x64x128, .f32⟩
  | 11 => ⟨S2x4x64x64, .f32⟩
  | 12 => ⟨S2x4x64x128, .f32⟩
  | 13 => ⟨S2x4x1x128, .f32⟩
  | 14 => ⟨S2x4x128, .f32⟩
  | 15 => ⟨S2x4x128, .f32⟩
  | 16 => ⟨S2x4x128x1, .f32⟩
  | 17 => ⟨S2x4x128x128, .f32⟩
  | 18 => ⟨S2x4x128x128, .f32⟩
  | 19 => ⟨S2x4x64x128, .f32⟩
  | 20 => ⟨S2x4x64x128, .f32⟩
  | 21 => ⟨S2x4x64x128, .f32⟩
  | 22 => ⟨S2x4x64x128, .f32⟩
  | 23 => ⟨S2x4x128x128, .f32⟩
  | 24 => ⟨S2x4x128x128, .f32⟩
  | 25 => ⟨S2x4x64x128, .f32⟩
  | 26 => ⟨S1x2x4x64x128, .f32⟩
  | 27 => ⟨S_, .i32⟩
  | 28 => ⟨S_, .i32⟩
  | 29 => ⟨S_, .i32⟩
  | 30 => ⟨S_, .i32⟩
  | 31 => ⟨S128x2x4x64x128, .f32⟩
  | 32 => ⟨S_, .i32⟩
  | 33 => ⟨S_, .i32⟩
  | 34 => ⟨S2x128x64x4x128, .f32⟩
  | 35 => ⟨S2x8192x4x128, .f32⟩
  | 36 => ⟨S2x8192x512, .f32⟩
  | 37 => ⟨S2x8192x4x128, .f32⟩
  | 38 => ⟨S_, .f32⟩
  | 39 => ⟨S2x8192x4, .f32⟩
  | 40 => ⟨S2x8192x4x1, .f32⟩
  | 41 => ⟨S_, .f32⟩
  | 42 => ⟨S2x8192x4x1, .f32⟩
  | 43 => ⟨S2x8192x4x1, .f32⟩
  | 44 => ⟨S_, .f32⟩
  | 45 => ⟨S2x8192x4x1, .f32⟩
  | 46 => ⟨S2x8192x4x1, .f32⟩
  | 47 => ⟨S2x8192x4x1, .f32⟩
  | 48 => ⟨S2x8192x4x128, .f32⟩
  | 49 => ⟨S2x8192x4x128, .f32⟩
  | 50 => ⟨S1x1x1x128, .f32⟩
  | 51 => ⟨S2x8192x4x128, .f32⟩
  | 52 => ⟨S2x8192x4x128, .f32⟩
  | 53 => ⟨S2x8192x4x128, .f32⟩
  | 54 => ⟨S2x8192x4x128, .f32⟩
  | 55 => ⟨S2x8192x4x128, .f32⟩
  | 56 => ⟨S_, .f32⟩
  | 57 => ⟨S2x8192x4x128, .f32⟩
  | 58 => ⟨S2x8192x4x128, .f32⟩
  | 59 => ⟨S_, .f32⟩
  | 60 => ⟨S2x8192x4x128, .f32⟩
  | 61 => ⟨S2x8192x4x128, .f32⟩
  | 62 => ⟨S2x8192x4x128, .f32⟩
  | 63 => ⟨S2x8192x4x128, .f32⟩
  | 64 => ⟨S16384x512, .f32⟩
  | 65 => ⟨S16384x512, .bf16⟩
  | _ => ⟨S2x8192x2048, .f32⟩

abbrev hbmTy (i : Nat) : BufTy := match i / 128 with
  | 0 => hbmTy0_0 i
  | 1 => hbmTy0_1 i
  | _ => ⟨S2x8192x2048, .f32⟩

abbrev bufTy : (tb : Table) → Fin (tcTables nBuf tb) → BufTy
  | .hbm, ⟨i, _⟩ => hbmTy i
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_call2_call0_cst : Ref sig .tc := ⟨.hbm, 60, rfl⟩
abbrev main_call2_call0_v0 : Ref sig .tc := ⟨.hbm, 61, rfl⟩
abbrev main_v36 : Ref sig .tc := ⟨.hbm, 62, rfl⟩
abbrev main_c : Ref sig .tc := ⟨.hbm, 63, rfl⟩
abbrev main_v37 : Ref sig .tc := ⟨.hbm, 64, rfl⟩
abbrev main_call3_v0 : Ref sig .tc := ⟨.hbm, 65, rfl⟩
abbrev main_call3_c : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_c_0 : Ref sig .tc := ⟨.hbm, 71, rfl⟩
abbrev main_call3_v5 : Ref sig .tc := ⟨.hbm, 72, rfl⟩
abbrev main_v38 : Ref sig .tc := ⟨.hbm, 73, rfl⟩
abbrev main_cst : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_0 : Ref sig .tc := ⟨.hbm, 82, rfl⟩
abbrev main_v46 : Ref sig .tc := ⟨.hbm, 83, rfl⟩
abbrev main_c_1 : Ref sig .tc := ⟨.hbm, 84, rfl⟩
abbrev main_v47_0 : Ref sig .tc := ⟨.hbm, 85, rfl⟩
abbrev main_v47_1 : Ref sig .tc := ⟨.hbm, 86, rfl⟩
abbrev main_v47_2 : Ref sig .tc := ⟨.hbm, 87, rfl⟩
abbrev main_v47_3 : Ref sig .tc := ⟨.hbm, 88, rfl⟩
abbrev main_v47_4 : Ref sig .tc := ⟨.hbm, 89, rfl⟩
abbrev main_v47_5 : Ref sig .tc := ⟨.hbm, 90, rfl⟩
abbrev main_v47_6 : Ref sig .tc := ⟨.hbm, 91, rfl⟩
abbrev main_v47_7 : Ref sig .tc := ⟨.hbm, 92, rfl⟩
abbrev main_while0c_c_12 : Ref sig .tc := ⟨.hbm, 93, rfl⟩
abbrev main_while0c_v69 : Ref sig .tc := ⟨.hbm, 94, rfl⟩
abbrev main_while0b_call4_c : Ref sig .tc := ⟨.hbm, 95, rfl⟩
abbrev main_while0b_call4_c_0 : Ref sig .tc := ⟨.hbm, 96, rfl⟩
abbrev main_while0b_call4_c_1 : Ref sig .tc := ⟨.hbm, 97, rfl⟩
abbrev main_while0b_call4_c_2 : Ref sig .tc := ⟨.hbm, 98, rfl⟩
abbrev main_while0b_call4_v0 : Ref sig .tc := ⟨.hbm, 99, rfl⟩
abbrev main_while0b_v69 : Ref sig .tc := ⟨.hbm, 100, rfl⟩
abbrev main_while0b_call5_c : Ref sig .tc := ⟨.hbm, 101, rfl⟩
abbrev main_while0b_call5_c_0 : Ref sig .tc := ⟨.hbm, 102, rfl⟩
abbrev main_while0b_call5_c_1 : Ref sig .tc := ⟨.hbm, 103, rfl⟩
abbrev main_while0b_call5_c_2 : Ref sig .tc := ⟨.hbm, 104, rfl⟩
abbrev main_while0b_call5_v0 : Ref sig .tc := ⟨.hbm, 105, rfl⟩
abbrev main_while0b_v70 : Ref sig .tc := ⟨.hbm, 106, rfl⟩
abbrev main_while0b_call6_c : Ref sig .tc := ⟨.hbm, 107, rfl⟩
abbrev main_while0b_call6_c_0 : Ref sig .tc := ⟨.hbm, 108, rfl⟩
abbrev main_while0b_call6_c_1 : Ref sig .tc := ⟨.hbm, 109, rfl⟩
abbrev main_while0b_call6_c_2 : Ref sig .tc := ⟨.hbm, 110, rfl⟩
abbrev main_while0b_call6_v0 : Ref sig .tc := ⟨.hbm, 111, rfl⟩
abbrev main_while0b_v71 : Ref sig .tc := ⟨.hbm, 112, rfl⟩
abbrev main_while0b_call7_c : Ref sig .tc := ⟨.hbm, 113, rfl⟩
abbrev main_while0b_call7_c_0 : Ref sig .tc := ⟨.hbm, 114, rfl⟩
abbrev main_while0b_call7_c_1 : Ref sig .tc := ⟨.hbm, 115, rfl⟩
abbrev main_while0b_call7_c_2 : Ref sig .tc := ⟨.hbm, 116, rfl⟩
abbrev main_while0b_call7_v0 : Ref sig .tc := ⟨.hbm, 117, rfl⟩
abbrev main_while0b_v72 : Ref sig .tc := ⟨.hbm, 118, rfl⟩
abbrev main_while0b_v73 : Ref sig .tc := ⟨.hbm, 119, rfl⟩
abbrev main_while0b_v74 : Ref sig .tc := ⟨.hbm, 120, rfl⟩
abbrev main_while0b_v75 : Ref sig .tc := ⟨.hbm, 121, rfl⟩
abbrev main_while0b_v76 : Ref sig .tc := ⟨.hbm, 122, rfl⟩
abbrev main_while0b_v77 : Ref sig .tc := ⟨.hbm, 123, rfl⟩
abbrev main_while0b_v78 : Ref sig .tc := ⟨.hbm, 124, rfl⟩
abbrev main_while0b_v79 : Ref sig .tc := ⟨.hbm, 125, rfl⟩
abbrev main_while0b_v80 : Ref sig .tc := ⟨.hbm, 126, rfl⟩
abbrev main_while0b_v81 : Ref sig .tc := ⟨.hbm, 127, rfl⟩
abbrev main_while0b_cst_12 : Ref sig .tc := ⟨.hbm, 128, rfl⟩
abbrev main_while0b_call8_v0 : Ref sig .tc := ⟨.hbm, 129, rfl⟩
abbrev main_while0b_call8_v1 : Ref sig .tc := ⟨.hbm, 130, rfl⟩
abbrev main_while0b_call8_v2 : Ref sig .tc := ⟨.hbm, 131, rfl⟩
abbrev main_while0b_v82 : Ref sig .tc := ⟨.hbm, 132, rfl⟩
abbrev main_while0b_v83 : Ref sig .tc := ⟨.hbm, 133, rfl⟩
abbrev main_while0b_v84 : Ref sig .tc := ⟨.hbm, 134, rfl⟩
abbrev main_while0b_v85 : Ref sig .tc := ⟨.hbm, 135, rfl⟩
abbrev main_while0b_v86 : Ref sig .tc := ⟨.hbm, 136, rfl⟩
abbrev main_while0b_v87 : Ref sig .tc := ⟨.hbm, 137, rfl⟩
abbrev main_while0b_v88 : Ref sig .tc := ⟨.hbm, 138, rfl⟩
abbrev main_while0b_v89 : Ref sig .tc := ⟨.hbm, 139, rfl⟩
abbrev main_while0b_v90 : Ref sig .tc := ⟨.hbm, 140, rfl⟩
abbrev main_while0b_v91 : Ref sig .tc := ⟨.hbm, 141, rfl⟩
abbrev main_while0b_v92 : Ref sig .tc := ⟨.hbm, 142, rfl⟩
abbrev main_while0b_v93 : Ref sig .tc := ⟨.hbm, 143, rfl⟩
abbrev main_while0b_v94 : Ref sig .tc := ⟨.hbm, 144, rfl⟩
abbrev main_while0b_v95 : Ref sig .tc := ⟨.hbm, 145, rfl⟩
abbrev main_while0b_v96 : Ref sig .tc := ⟨.hbm, 146, rfl⟩
abbrev main_while0b_v97 : Ref sig .tc := ⟨.hbm, 147, rfl⟩
abbrev main_while0b_v98 : Ref sig .tc := ⟨.hbm, 148, rfl⟩
abbrev main_while0b_v99 : Ref sig .tc := ⟨.hbm, 149, rfl⟩
abbrev main_while0b_v100 : Ref sig .tc := ⟨.hbm, 150, rfl⟩
abbrev main_while0b_v101 : Ref sig .tc := ⟨.hbm, 151, rfl⟩
abbrev main_while0b_v102 : Ref sig .tc := ⟨.hbm, 152, rfl⟩
abbrev main_while0b_v103 : Ref sig .tc := ⟨.hbm, 153, rfl⟩
abbrev main_while0b_call9_v0 : Ref sig .tc := ⟨.hbm, 154, rfl⟩
abbrev main_while0b_call9_c : Ref sig .tc := ⟨.hbm, 155, rfl⟩
abbrev main_while0b_call9_c_0 : Ref sig .tc := ⟨.hbm, 156, rfl⟩
abbrev main_while0b_call9_c_1 : Ref sig .tc := ⟨.hbm, 157, rfl⟩
abbrev main_while0b_call9_c_2 : Ref sig .tc := ⟨.hbm, 158, rfl⟩
abbrev main_while0b_v104 : Ref sig .tc := ⟨.hbm, 159, rfl⟩
abbrev main_while0b_c_13 : Ref sig .tc := ⟨.hbm, 160, rfl⟩
abbrev main_while0b_v105 : Ref sig .tc := ⟨.hbm, 161, rfl⟩
abbrev main_v48 : Ref sig .tc := ⟨.hbm, 162, rfl⟩
abbrev main_v49 : Ref sig .tc := ⟨.hbm, 163, rfl⟩
abbrev main_v50 : Ref sig .tc := ⟨.hbm, 164, rfl⟩
abbrev main_v51 : Ref sig .tc := ⟨.hbm, 165, rfl⟩
abbrev main_cst_2 : Ref sig .tc := ⟨.hbm, 166, rfl⟩
abbrev main_v52 : Ref sig .tc := ⟨.hbm, 167, rfl⟩
abbrev main_v53 : Ref sig .tc := ⟨.hbm, 168, rfl⟩
abbrev main_cst_3 : Ref sig .tc := ⟨.hbm, 169, rfl⟩
abbrev main_v54 : Ref sig .tc := ⟨.hbm, 170, rfl⟩
abbrev main_v55 : Ref sig .tc := ⟨.hbm, 171, rfl⟩
abbrev main_cst_4 : Ref sig .tc := ⟨.hbm, 172, rfl⟩
abbrev main_v56 : Ref sig .tc := ⟨.hbm, 173, rfl⟩
abbrev main_v57 : Ref sig .tc := ⟨.hbm, 174, rfl⟩
abbrev main_v58 : Ref sig .tc := ⟨.hbm, 175, rfl⟩
abbrev main_v59 : Ref sig .tc := ⟨.hbm, 176, rfl⟩
abbrev main_v60 : Ref sig .tc := ⟨.hbm, 177, rfl⟩
abbrev main_v61 : Ref sig .tc := ⟨.hbm, 178, rfl⟩
abbrev main_v62 : Ref sig .tc := ⟨.hbm, 179, rfl⟩
abbrev main_v63 : Ref sig .tc := ⟨.hbm, 180, rfl⟩
abbrev main_v64 : Ref sig .tc := ⟨.hbm, 181, rfl⟩
abbrev main_call10_v0 : Ref sig .tc := ⟨.hbm, 182, rfl⟩
abbrev main_call10_v1 : Ref sig .tc := ⟨.hbm, 183, rfl⟩
abbrev main_call10_cst : Ref sig .tc := ⟨.hbm, 184, rfl⟩
abbrev main_call10_v2 : Ref sig .tc := ⟨.hbm, 185, rfl⟩
abbrev main_call10_v3 : Ref sig .tc := ⟨.hbm, 186, rfl⟩
abbrev main_call10_cst_0 : Ref sig .tc := ⟨.hbm, 187, rfl⟩
abbrev main_call10_v4 : Ref sig .tc := ⟨.hbm, 188, rfl⟩
abbrev main_call10_v5 : Ref sig .tc := ⟨.hbm, 189, rfl⟩
abbrev main_v65 : Ref sig .tc := ⟨.hbm, 190, rfl⟩
abbrev main_v66 : Ref sig .tc := ⟨.hbm, 191, rfl⟩
abbrev main_v67 : Ref sig .tc := ⟨.hbm, 192, rfl⟩
abbrev main_v68 : Ref sig .tc := ⟨.hbm, 193, rfl⟩

abbrev nD : Nat := 1
abbrev τ : Topo := Topo.v7x

variable {F : FTy → Type} [FloatOps F]

abbrev main_while0_count : Scf.Loop 32 := ⟨0#32, 128#32, 1#32⟩
-- ==== Ffn.lean ====
abbrev S2x8192x1024 : Shape := ⟨3, ![2, 8192, 1024]⟩
abbrev S1024 : Shape := ⟨1, ![1024]⟩
abbrev S1024x5632 : Shape := ⟨2, ![1024, 5632]⟩
abbrev S2816x1024 : Shape := ⟨2, ![2816, 1024]⟩
abbrev S16384x1024 : Shape := ⟨2, ![16384, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 9
  | .vmem => 7
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S256x1024, .f32⟩
  | .local _ .vmem, ⟨6, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnReferenceIdeal.lean ====
abbrev S2x8192x1024 : Shape := ⟨3, ![2, 8192, 1024]⟩
abbrev S1024 : Shape := ⟨1, ![1024]⟩
abbrev S1024x5632 : Shape := ⟨2, ![1024, 5632]⟩
abbrev S2816x1024 : Shape := ⟨2, ![2816, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 36
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== Merge.lean ====
abbrev S2x8192x1024 : Shape := ⟨3, ![2, 8192, 1024]⟩
abbrev S16384x512 : Shape := ⟨2, ![16384, 512]⟩
abbrev S1024 : Shape := ⟨1, ![1024]⟩
abbrev S1024x2048 : Shape := ⟨2, ![1024, 2048]⟩
abbrev S512x1024 : Shape := ⟨2, ![512, 1024]⟩
abbrev S1024x1024 : Shape := ⟨2, ![1024, 1024]⟩
abbrev S16384x1024 : Shape := ⟨2, ![16384, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩
abbrev S512x2048 : Shape := ⟨2, ![512, 2048]⟩

abbrev nBuf : Space → Nat
  | .hbm => 15
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S16384x512, .bf16⟩
  | .hbm, ⟨2, _⟩ => ⟨S16384x512, .bf16⟩
  | .hbm, ⟨3, _⟩ => ⟨S1024, .f32⟩
  | .hbm, ⟨4, _⟩ => ⟨S1024x2048, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S16384x1024, .f32⟩
  | .hbm, ⟨9, _⟩ => ⟨S1x1024, .f32⟩
  | .hbm, ⟨10, _⟩ => ⟨S1024x2048, .bf16⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1024, .f32⟩
  | .local _ .vmem, ⟨7, _⟩ => ⟨S1024x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeReferenceIdeal.lean ====
abbrev S2x8192x1024 : Shape := ⟨3, ![2, 8192, 1024]⟩
abbrev S16384x512 : Shape := ⟨2, ![16384, 512]⟩
abbrev S1024 : Shape := ⟨1, ![1024]⟩
abbrev S1024x2048 : Shape := ⟨2, ![1024, 2048]⟩
abbrev S512x1024 : Shape := ⟨2, ![512, 1024]⟩
abbrev S1024x1024 : Shape := ⟨2, ![1024, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩

abbrev nBuf : Space → Nat
  | .hbm => 53
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S16384x512, .bf16⟩
  | .hbm, ⟨2, _⟩ => ⟨S16384x512, .bf16⟩
  | .hbm, ⟨3, _⟩ => ⟨S1024, .f32⟩
  | .hbm, ⟨4, _⟩ => ⟨S1024x2048, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S16384x1024, .f32⟩
  | .hbm, ⟨9, _⟩ => ⟨S16384x512, .f32⟩
  | .hbm, ⟨10, _⟩ => ⟨S16384x512, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x2048, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== MixIn.lean ====
abbrev S2x8192x1024 : Shape := ⟨3, ![2, 8192, 1024]⟩
abbrev S2x8192 : Shape := ⟨2, ![2, 8192]⟩
abbrev S1024 : Shape := ⟨1, ![1024]⟩
abbrev S1024x5956 : Shape := ⟨2, ![1024, 5956]⟩
abbrev S64 : Shape := ⟨1, ![64]⟩
abbrev S32 : Shape := ⟨1, ![32]⟩
abbrev S_ : Shape := ⟨0, ![]⟩
abbrev S2x8192x1 : Shape := ⟨3, ![2, 8192, 1]⟩
abbrev S1x1x32 : Shape := ⟨3, ![1, 1, 32]⟩
abbrev S2x8192x32 : Shape := ⟨3, ![2, 8192, 32]⟩
abbrev S2x8192x128 : Shape := ⟨3, ![2, 8192, 128]⟩
abbrev S16384x128 : Shape := ⟨2, ![16384, 128]⟩
abbrev S512 : Shape := ⟨1, ![512]⟩
abbrev S512x1 : Shape := ⟨2, ![512, 1]⟩
abbrev S128 : Shape := ⟨1, ![128]⟩
abbrev S1x128 : Shape := ⟨2, ![1, 128]⟩
abbrev S512x128 : Shape := ⟨2, ![512, 128]⟩
abbrev S128x512 : Shape := ⟨2, ![128, 512]⟩
abbrev S16384x1024 : Shape := ⟨2, ![16384, 1024]⟩
abbrev S1x1024 : Shape := ⟨2, ![1, 1024]⟩
abbrev S1024x1536 : Shape := ⟨2, ![1024, 1536]⟩
abbrev S1024x324 : Shape := ⟨2, ![1024, 324]⟩
abbrev S1024x384 : Shape := ⟨2, ![1024, 384]⟩
abbrev S1024x2048 : Shape := ⟨2, ![1024, 2048]⟩
abbrev S1x64 : Shape := ⟨2, ![1, 64]⟩
abbrev S8x64 : Shape := ⟨2, ![8, 64]⟩
abbrev S1x512 : Shape := ⟨2, ![1, 512]⟩
abbrev S16384x512 : Shape := ⟨2, ![16384, 512]⟩
abbrev S16384x256 : Shape := ⟨2, ![16384, 256]⟩
abbrev S16384x2048 : Shape := ⟨2, ![16384, 2048]⟩
abbrev S512x1024 : Shape := ⟨2, ![512, 1024]⟩
abbrev S512x512 : Shape := ⟨2, ![512, 512]⟩
abbrev S512x256 : Shape := ⟨2, ![512, 256]⟩
abbrev S512x2048 : Shape := ⟨2, ![512, 2048]⟩
abbrev S512x1536 : Shape := ⟨2, ![512, 1536]⟩
abbrev S512x384 : Shape := ⟨2, ![512, 384]⟩

abbrev nBuf : Space → Nat
  | .hbm => 85
  | .vmem => 26
  | .smem => 0
  | _ => 0

abbrev bufTy : (tb : Table) → Fin (tcTables nBuf tb) → BufTy
  | .hbm, ⟨0, _⟩ => ⟨S2x8192x1024, .f32⟩
  | .hbm, ⟨1, _⟩ => ⟨S2x8192, .i32⟩
  | .hbm, ⟨2, _⟩ => ⟨S1024, .f32⟩
  | .hbm, ⟨3, _⟩ => ⟨S1024x5956, .f32⟩
  | .hbm, ⟨4, _⟩ => ⟨S64, .f32⟩
  | .hbm, ⟨5, _⟩ => ⟨S64, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S2x8192, .f32⟩
  | .hbm, ⟨21, _⟩ => ⟨S2x8192x1, .f32⟩
  | .hbm, ⟨22, _⟩ => ⟨S1x1x32, .f32⟩
  | .hbm, ⟨23, _⟩ => ⟨S2x8192x32, .f32⟩
  | .hbm, ⟨24, _⟩ => ⟨S2x8192x32, .f32⟩
  | .hbm, ⟨25, _⟩ => ⟨S2x8192x32, .f32⟩
  | .hbm, ⟨26, _⟩ => ⟨S2x8192x32, .f32⟩
  | .hbm, ⟨27, _⟩ => ⟨S2x8192x32, .f32⟩
  | .hbm, ⟨28, _⟩ => ⟨S2x8192x128, .f32⟩
  | .hbm, ⟨29, _⟩ => ⟨S16384x128, .f32⟩
  | .hbm, ⟨30, _⟩ => ⟨S2x8192x32, .f32⟩
  | .hbm, ⟨31, _⟩ => ⟨S2x8192x32, .f32⟩
  | .hbm, ⟨32, _⟩ => ⟨S2x8192x128, .f32⟩
  | .hbm, ⟨33, _⟩ => ⟨S16384x128, .f32⟩
  | .hbm, ⟨34, _⟩ => ⟨S512, .i32⟩
  | .hbm, ⟨35, _⟩ => ⟨S_, .i32⟩
  | .hbm, ⟨36, _⟩ => ⟨S_, .i32⟩
  | .hbm, ⟨37, _⟩ => ⟨S512, .i32⟩
  | .hbm, ⟨38, _⟩ => ⟨S512, .i32⟩
  | .hbm, ⟨39, _⟩ => ⟨S512, .i32⟩
  | .hbm, ⟨40, _⟩ => ⟨S_, .i32⟩
  | .hbm, ⟨41, _⟩ => ⟨S512, .i32⟩
  | .hbm, ⟨42, _⟩ => ⟨S512, .i1⟩
  | .hbm, ⟨43, _⟩ => ⟨S512, .i32⟩
  | .hbm, ⟨44, _⟩ => ⟨S512, .i32⟩
  | .hbm, ⟨45, _⟩ => ⟨S_, .i32⟩
  | .hbm, ⟨46, _⟩ => ⟨S512, .i32⟩
  | .hbm, ⟨47, _⟩ => ⟨S512, .i1⟩
  | .hbm, ⟨48, _⟩ => ⟨S512, .i1⟩
  | .hbm, ⟨49, _⟩ => ⟨S_, .i32⟩
  | .hbm, ⟨50, _⟩ => ⟨S512, .i32⟩
  | .hbm, ⟨51, _⟩ => ⟨S512, .i32⟩
  | .hbm, ⟨52, _⟩ => ⟨S512, .i32⟩
  | .hbm, ⟨53, _⟩ => ⟨S512x1, .i32⟩
  | .hbm, ⟨54, _⟩ => ⟨S128, .i32⟩
  | .hbm, ⟨55, _⟩ => ⟨S1x128, .i32⟩
  | .hbm, ⟨56, _⟩ => ⟨S512x128, .i32⟩
  | .hbm, ⟨57, _⟩ => ⟨S512x128, .i32⟩
  | .hbm, ⟨58, _⟩ => ⟨S512x128, .i1⟩
  | .hbm, ⟨59, _⟩ => ⟨S512x128, .f32⟩
  | .hbm, ⟨60, _⟩ => ⟨S128x512, .f32⟩
  | .hbm, ⟨61, _⟩ => ⟨S16384x1024, .f32⟩
  | .hbm, ⟨62, _⟩ => ⟨S1x1024, .f32⟩
  | .hbm, ⟨63, _⟩ => ⟨S1024x1536, .f32⟩
  | .hbm, ⟨64, _⟩ => ⟨S1024x1536, .bf16⟩
  | .hbm, ⟨65, _⟩ => ⟨S1024x324, .f32⟩
  | .hbm, ⟨66, _⟩ => ⟨S_, .i32⟩
  | .hbm, ⟨67, _⟩ => ⟨S_, .f32⟩
  | .hbm, ⟨68, _⟩ => ⟨S1024x384, .f32⟩
  | .hbm, ⟨69, _⟩ => ⟨S1024x2048, .f32⟩
  | .hbm, ⟨70, _⟩ => ⟨S1024x2048, .bf16⟩
  | .hbm, ⟨71, _⟩ => ⟨S1x64, .f32⟩
  | .hbm, ⟨72, _⟩ => ⟨S8x64, .f32⟩
  | .hbm, ⟨73, _⟩ => ⟨S512, .f32⟩
  | .hbm, ⟨74, _⟩ => ⟨S1x512, .f32⟩
  | .hbm, ⟨75, _⟩ => ⟨S1x64, .f32⟩
  | .hbm, ⟨76, _⟩ => ⟨S8x64, .f32⟩
  | .hbm, ⟨77, _⟩ => ⟨S512, .f32⟩
  | .hbm, ⟨78, _⟩ => ⟨S1x512, .f32⟩
  | .hbm, ⟨79, _⟩ => ⟨S16384x512, .bf16⟩
  | .hbm, ⟨80, _⟩ => ⟨S16384x512, .bf16⟩
  | .hbm, ⟨81, _⟩ => ⟨S16384x512, .bf16⟩
  | .hbm, ⟨82, _⟩ => ⟨S16384x256, .f32⟩
  | .hbm, ⟨83, _⟩ => ⟨S16384x128, .f32⟩
  | .hbm, ⟨84, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1024x384, .f32⟩
  | .local _ .vmem, ⟨5, _⟩ => ⟨S1024x2048, .bf16⟩
  | .local _ .vmem, ⟨6, _⟩ => ⟨S1x512, .f32⟩
  | .local _ .vmem, ⟨7, _⟩ => ⟨S1x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S128x512, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x256, .f32⟩
  | .local _ .vmem, ⟨21, _⟩ => ⟨S512x256, .f32⟩
  | .local _ .vmem, ⟨22, _⟩ => ⟨S512x128, .f32⟩
  | .local _ .vmem, ⟨23, _⟩ => ⟨S512x128, .f32⟩
  | .local _ .vmem, ⟨24, _⟩ => ⟨S512x2048, .f32⟩
  | .local _ .vmem, ⟨25, _⟩ => ⟨S512x2048, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_c : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_0 : Ref sig .tc := ⟨.hbm, 49, rfl⟩
abbrev main_call0_v12 : Ref sig .tc := ⟨.hbm, 50, rfl⟩
abbrev main_call0_v13 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_3 : Ref sig .tc := ⟨.hbm, 66, rfl⟩
abbrev main_call1_v0 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50_0 : Ref sig .tc := ⟨.hbm, 79, rfl⟩
abbrev main_v50_1 : Ref sig .tc := ⟨.hbm, 80, rfl⟩
abbrev main_v50_2 : Ref sig .tc := ⟨.hbm, 81, rfl⟩
abbrev main_v50_3 : Ref sig .tc := ⟨.hbm, 82, rfl⟩
abbrev main_v50_4 : Ref sig .tc := ⟨.hbm, 83, rfl⟩
abbrev main_v50_5 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixInReferenceIdeal.lean ====
abbrev S2x8192x1024 : Shape := ⟨3, ![2, 8192, 1024]⟩
abbrev S2x8192 : Shape := ⟨2, ![2, 8192]⟩
abbrev S1024 : Shape := ⟨1, ![1024]⟩
abbrev S1024x5956 : Shape := ⟨2, ![1024, 5956]⟩
abbrev S64 : Shape := ⟨1, ![64]⟩
abbrev S32 : Shape := ⟨1, ![32]⟩
abbrev S_ : Shape := ⟨0, ![]⟩
abbrev S2x8192x1 : Shape := ⟨3, ![2, 8192, 1]⟩
abbrev S1x1x32 : Shape := ⟨3, ![1, 1, 32]⟩
abbrev S2x8192x32 : Shape := ⟨3, ![2, 8192, 32]⟩
abbrev S2x8192x1x32 : Shape := ⟨4, ![2, 8192, 1, 32]⟩
abbrev S1x1x1024 : Shape := ⟨3, ![1, 1, 1024]⟩
abbrev S2x8192x5956 : Shape := ⟨3, ![2, 8192, 5956]⟩
abbrev S2x8192x512 : Shape := ⟨3, ![2, 8192, 512]⟩
abbrev S2x8192x256 : Shape := ⟨3, ![2, 8192, 256]⟩
abbrev S2x8192x64 : Shape := ⟨3, ![2, 8192, 64]⟩
abbrev S2x8192x4 : Shape := ⟨3, ![2, 8192, 4]⟩
abbrev S2x8192x2048 : Shape := ⟨3, ![2, 8192, 2048]⟩
abbrev S2x8192x8x64 : Shape := ⟨4, ![2, 8192, 8, 64]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S2x8192x8x32 : Shape := ⟨4, ![2, 8192, 8, 32]⟩
abbrev S2x8192x4x64 : Shape := ⟨4, ![2, 8192, 4, 64]⟩
abbrev S2x8192x4x32 : Shape := ⟨4, ![2, 8192, 4, 32]⟩
abbrev S2x8192x1x64 : Shape := ⟨4, ![2, 8192, 1, 64]⟩
abbrev S2x8192x60 : Shape := ⟨3, ![2, 8192, 60]⟩
abbrev S2x8192x128 : Shape := ⟨3, ![2, 8192, 128]⟩
abbrev S16384x512 : Shape := ⟨2, ![16384, 512]⟩
abbrev S16384x256 : Shape := ⟨2, ![16384, 256]⟩
abbrev S16384x128 : Shape := ⟨2, ![16384, 128]⟩
abbrev S16384x2048 : Shape := ⟨2, ![16384, 2048]⟩

abbrev nBuf : Space → Nat
  | .hbm => 161
  | .vmem => 0
  | .smem => 0
  | _ => 0

abbrev hbmTy0_0 (i : Nat) : BufTy := match i % 128 with
  | 0 => ⟨S2x8192x1024, .f32⟩
  | 1 => ⟨S2x8192, .i32⟩
  | 2 => ⟨S1024, .f32⟩
  | 3 => ⟨S1024x5956, .f32⟩
  | 4 => ⟨S64, .f32⟩
  | 5 => ⟨S64, .f32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S2x8192, .f32⟩
  | 21 => ⟨S2x8192x1, .f32⟩
  | 22 => ⟨S1x1x32, .f32⟩
  | 23 => ⟨S2x8192x32, .f32⟩
  | 24 => ⟨S2x8192x32, .f32⟩
  | 25 => ⟨S2x8192x32, .f32⟩
  | 26 => ⟨S2x8192x32, .f32⟩
  | 27 => ⟨S2x8192x1x32, .f32⟩
  | 28 => ⟨S2x8192x32, .f32⟩
  | 29 => ⟨S2x8192x1x32, .f32⟩
  | 30 => ⟨S2x8192x1024, .f32⟩
  | 31 => ⟨S_, .f32⟩
  | 32 => ⟨S2x8192, .f32⟩
  | 33 => ⟨S2x8192x1, .f32⟩
  | 34 => ⟨S_, .f32⟩
  | 35 => ⟨S2x8192x1, .f32⟩
  | 36 => ⟨S2x8192x1, .f32⟩
  | 37 => ⟨S_, .f32⟩
  | 38 => ⟨S2x8192x1, .f32⟩
  | 39 => ⟨S2x8192x1, .f32⟩
  | 40 => ⟨S2x8192x1, .f32⟩
  | 41 => ⟨S2x8192x1024, .f32⟩
  | 42 => ⟨S2x8192x1024, .f32⟩
  | 43 => ⟨S1x1x1024, .f32⟩
  | 44 => ⟨S2x8192x1024, .f32⟩
  | 45 => ⟨S2x8192x1024, .f32⟩
  | 46 => ⟨S2x8192x5956, .f32⟩
  | 47 => ⟨S2x8192x512, .f32⟩
  | 48 => ⟨S2x8192x512, .f32⟩
  | 49 => ⟨S2x8192x512, .f32⟩
  | 50 => ⟨S2x8192x256, .f32⟩
  | 51 => ⟨S2x8192x64, .f32⟩
  | 52 => ⟨S2x8192x4, .f32⟩
  | 53 => ⟨S2x8192x2048, .f32⟩
  | 54 => ⟨S2x8192x2048, .f32⟩
  | 55 => ⟨S2x8192x8x64, .f32⟩
  | 56 => ⟨S2x8192x8x64, .f32⟩
  | 57 => ⟨S_, .f32⟩
  | 58 => ⟨S2x8192x8, .f32⟩
  | 59 => ⟨S2x8192x8x1, .f32⟩
  | 60 => ⟨S_, .f32⟩
  | 61 => ⟨S2x8192x8x1, .f32⟩
  | 62 => ⟨S2x8192x8x1, .f32⟩
  | 63 => ⟨S_, .f32⟩
  | 64 => ⟨S2x8192x8x1, .f32⟩
  | 65 => ⟨S2x8192x8x1, .f32⟩
  | 66 => ⟨S2x8192x8x1, .f32⟩
  | 67 => ⟨S2x8192x8x64, .f32⟩
  | 68 => ⟨S2x8192x8x64, .f32⟩
  | 69 => ⟨S1x1x1x64, .f32⟩
  | 70 => ⟨S2x8192x8x64, .f32⟩
  | 71 => ⟨S2x8192x8x64, .f32⟩
  | 72 => ⟨S2x8192x8x32, .f32⟩
  | 73 => ⟨S2x8192x8x32, .f32⟩
  | 74 => ⟨S2x8192x8x32, .f32⟩
  | 75 => ⟨S2x8192x8x32, .f32⟩
  | 76 => ⟨S2x8192x8x32, .f32⟩
  | 77 => ⟨S2x8192x8x32, .f32⟩
  | 78 => ⟨S2x8192x8x32, .f32⟩
  | 79 => ⟨S2x8192x8x32, .f32⟩
  | 80 => ⟨S2x8192x8x32, .f32⟩
  | 81 => ⟨S2x8192x8x32, .f32⟩
  | 82 => ⟨S2x8192x8x32, .f32⟩
  | 83 => ⟨S2x8192x8x32, .f32⟩
  | 84 => ⟨S2x8192x8x64, .f32⟩
  | 85 => ⟨S2x8192x8x64, .f32⟩
  | 86 => ⟨S2x8192x8x64, .f32⟩
  | 87 => ⟨S_, .f32⟩
  | 88 => ⟨S2x8192x8, .f32⟩
  | 89 => ⟨S2x8192x8x1, .f32⟩
  | 90 => ⟨S_, .f32⟩
  | 91 => ⟨S2x8192x8x1, .f32⟩
  | 92 => ⟨S2x8192x8x1, .f32⟩
  | 93 => ⟨S_, .f32⟩
  | 94 => ⟨S2x8192x8x1, .f32⟩
  | 95 => ⟨S2x8192x8x1, .f32⟩
  | 96 => ⟨S2x8192x8x1, .f32⟩
  | 97 => ⟨S2x8192x8x64, .f32⟩
  | 98 => ⟨S2x8192x8x64, .f32⟩
  | 99 => ⟨S1x1x1x64, .f32⟩
  | 100 => ⟨S2x8192x8x64, .f32⟩
  | 101 => ⟨S2x8192x8x64, .f32⟩
  | 102 => ⟨S2x8192x8x32, .f32⟩
  | 103 => ⟨S2x8192x8x32, .f32⟩
  | 104 => ⟨S2x8192x8x32, .f32⟩
  | 105 => ⟨S2x8192x8x32, .f32⟩
  | 106 => ⟨S2x8192x8x32, .f32⟩
  | 107 => ⟨S2x8192x8x32, .f32⟩
  | 108 => ⟨S2x8192x8x32, .f32⟩
  | 109 => ⟨S2x8192x8x32, .f32⟩
  | 110 => ⟨S2x8192x8x32, .f32⟩
  | 111 => ⟨S2x8192x8x32, .f32⟩
  | 112 => ⟨S2x8192x8x32, .f32⟩
  | 113 => ⟨S2x8192x8x32, .f32⟩
  | 114 => ⟨S2x8192x8x64, .f32⟩
  | 115 => ⟨S2x8192x4x64, .f32⟩
  | 116 => ⟨S2x8192x4x32, .f32⟩
  | 117 => ⟨S2x8192x4x32, .f32⟩
  | 118 => ⟨S2x8192x4x32, .f32⟩
  | 119 => ⟨S2x8192x4x32, .f32⟩
  | 120 => ⟨S2x8192x4x32, .f32⟩
  | 121 => ⟨S2x8192x4x32, .f32⟩
  | 122 => ⟨S2x8192x4x32, .f32⟩
  | 123 => ⟨S2x8192x4x32, .f32⟩
  | 124 => ⟨S2x8192x4x32, .f32⟩
  | 125 => ⟨S2x8192x4x32, .f32⟩
  | 126 => ⟨S2x8192x4x32, .f32⟩
  | 127 => ⟨S2x8192x4x32, .f32⟩
  | _ => ⟨S2x8192x1024, .f32⟩

abbrev hbmTy0_1 (i : Nat) : BufTy := match i % 128 with
  | 0 => ⟨S2x8192x4x64, .f32⟩
  | 1 => ⟨S_, .f32⟩
  | 2 => ⟨S2x8192x4x64, .f32⟩
  | 3 => ⟨S2x8192x4x64, .f32⟩
  | 4 => ⟨S2x8192x1x64, .f32⟩
  | 5 => ⟨S2x8192x1x32, .f32⟩
  | 6 => ⟨S2x8192x1x32, .f32⟩
  | 7 => ⟨S2x8192x1x32, .f32⟩
  | 8 => ⟨S2x8192x1x32, .f32⟩
  | 9 => ⟨S2x8192x1x32, .f32⟩
  | 10 => ⟨S2x8192x1x32, .f32⟩
  | 11 => ⟨S2x8192x1x32, .f32⟩
  | 12 => ⟨S2x8192x1x32, .f32⟩
  | 13 => ⟨S2x8192x1x64, .f32⟩
  | 14 => ⟨S2x8192x64, .f32⟩
  | 15 => ⟨S_, .f32⟩
  | 16 => ⟨S2x8192x4, .f32⟩
  | 17 => ⟨S2x8192x4, .f32⟩
  | 18 => ⟨S_, .f32⟩
  | 19 => ⟨S2x8192x8x64, .f32⟩
  | 20 => ⟨S2x8192x8x64, .f32⟩
  | 21 => ⟨S_, .f32⟩
  | 22 => ⟨S2x8192x60, .f32⟩
  | 23 => ⟨S2x8192x128, .f32⟩
  | 24 => ⟨S16384x512, .f32⟩
  | 25 => ⟨S16384x512, .bf16⟩
  | 26 => ⟨S16384x512, .f32⟩
  | 27 => ⟨S16384x512, .bf16⟩
  | 28 => ⟨S16384x512, .f32⟩
  | 29 => ⟨S16384x512, .bf16⟩
  | 30 => ⟨S16384x256, .f32⟩
  | 31 => ⟨S16384x128, .f32⟩
  | 32 => ⟨S16384x2048, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_9 : Ref sig .tc := ⟨.hbm, 87, rfl⟩
abbrev main_v71 : Ref sig .tc := ⟨.hbm, 88, rfl⟩
abbrev main_v72 : Ref sig .tc := ⟨.hbm, 89, rfl⟩
abbrev main_cst_10 : Ref sig .tc := ⟨.hbm, 90, rfl⟩
abbrev main_v73 : Ref sig .tc := ⟨.hbm, 91, rfl⟩
abbrev main_v74 : Ref sig .tc := ⟨.hbm, 92, rfl⟩
abbrev main_cst_11 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_cst_12 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_cst_13 : Ref sig .tc := ⟨.hbm, 143, rfl⟩
abbrev main_v123 : Ref sig .tc := ⟨.hbm, 144, rfl⟩
abbrev main_v124 : Ref sig .tc := ⟨.hbm, 145, rfl⟩
abbrev main_cst_14 : Ref sig .tc := ⟨.hbm, 146, rfl⟩
abbrev main_v125 : Ref sig .tc := ⟨.hbm, 147, rfl⟩
abbrev main_v126 : Ref sig .tc := ⟨.hbm, 148, rfl⟩
abbrev main_cst_15 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩

abbrev nD : Nat := 1
abbrev τ : Topo := Topo.v7x

variable {F : FTy → Type} [FloatOps F]
-- ==== Proof.RefRun.lean ====
/- The recurrence's reference as an iteration: the loop's carried arrays after each trip are the step function applied
   to those before it, so the result is a function of the step iterated 128 times. -/
module

public import proofs.«01_k».proof.Proof.Gen.ReferenceIdeal.Run
public import proofs.«01_k».proof.Proof.Gen.ReferenceIdeal.Step

@[expose] public section

noncomputable section

namespace Cert.ReferenceIdeal.Iter

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The loop's buffers hold the state `s` before trip `j`: the carried arrays, the trip's number and the causal mask. -/
structure AtTrip (V : Valuation τ sig (Elt F)) (s : State F) (j : ℕ) : Prop where
  state : V (Proc.devRef .tc main_v47_6) = s.main_v47_6
  out : V (Proc.devRef .tc main_v47_7) = s.main_v47_7
  q : V (Proc.devRef .tc main_v47_0) = s.main_v47_0
  k : V (Proc.devRef .tc main_v47_1) = s.main_v47_1
  v : V (Proc.devRef .tc main_v47_2) = s.main_v47_2
  b : V (Proc.devRef .tc main_v47_3) = s.main_v47_3
  trip : V (Proc.devRef .tc main_v47_5) = constantI S_ 32 (BitVec.ofNat 32 j)
  mask : V (Proc.devRef .tc main_v47_4) = Cert.ReferenceIdeal.Step.K_main_v38 (F := F)

variable {V : Valuation τ sig (Elt F)} {s : State F} {j : ℕ}

/-- The queries of the trip's chunk. -/
theorem chunk_q (h : AtTrip V s j) : res_main_while0b_v69 V = Step.b5 j s := by
  unfold res_main_while0b_v69; rw [h.q, h.trip]; rfl
/-- The keys of the trip's chunk. -/
theorem chunk_k (h : AtTrip V s j) : res_main_while0b_v70 V = Step.b11 j s := by
  unfold res_main_while0b_v70; rw [h.k, h.trip]; rfl
/-- The values of the trip's chunk. -/
theorem chunk_v (h : AtTrip V s j) : res_main_while0b_v71 V = Step.b17 j s := by
  unfold res_main_while0b_v71; rw [h.v, h.trip]; rfl
/-- The cumulated decays of the trip's chunk. -/
theorem chunk_b (h : AtTrip V s j) : res_main_while0b_v72 V = Step.b23 j s := by
  unfold res_main_while0b_v72; rw [h.b, h.trip]; rfl
/-- The chunk's last cumulated decay. -/
theorem chunk_last (h : AtTrip V s j) : res_main_while0b_v91 V = Step.b46 j s := by
  unfold res_main_while0b_v91; rw [chunk_b h]; rfl

set_option maxRecDepth 8192 in
/-- The state a trip leaves. -/
theorem trip_state (h : AtTrip V s j) : step_main_v47_6 V = (step j s).main_v47_6 := by
  unfold step_main_v47_6
  rw [chunk_last h, chunk_b h, chunk_k h, chunk_v h, h.state]
  rfl

set_option maxRecDepth 8192 in
/-- The outputs a trip leaves. -/
theorem trip_out (h : AtTrip V s j) : step_main_v47_7 V = (step j s).main_v47_7 := by
  unfold step_main_v47_7
  rw [chunk_b h, chunk_k h, chunk_v h, chunk_q h, h.state, h.out, h.trip, h.mask]
  rfl

/-- The number of the next trip. -/
theorem trip_next (h : AtTrip V s j) : step_main_v47_5 V = constantI S_ 32 (BitVec.ofNat 32 (j + 1)) := by
  unfold step_main_v47_5
  rw [h.trip]
  funext i
  show BitVec.ofNat 32 j + 1#32 = BitVec.ofNat 32 (j + 1)
  simp only [BitVec.ofNat_add]

/-- One trip takes the buffers from a state to the next. -/
theorem atTrip_step (h : AtTrip V s j) : AtTrip (STEP V) (step j s) (j + 1) where
  state := (STEP_main_v47_6 V).trans (trip_state h)
  out := (STEP_main_v47_7 V).trans (trip_out h)
  trip := (STEP_main_v47_5 V).trans (trip_next h)
  mask := (STEP_main_v47_4 V).trans h.mask
  q := (STEP_main_v47_0 V).trans h.q
  k := (STEP_main_v47_1 V).trans h.k
  v := (STEP_main_v47_2 V).trans h.v
  b := (STEP_main_v47_3 V).trans h.b

variable (m : (ℓ : Loc nD τ sig) → Buf (Elt F) ℓ) (c : Dev nD)

/-- The state the first trip starts from. -/
abbrev start : State F := init (m ((c.tc : Thread nD τ).loc main_arg0)) (m ((c.tc : Thread nD τ).loc main_arg2))

/-- The state before trip `n`. -/
def states : ℕ → State F
  | 0 => start m c
  | n + 1 => step n (states n)

set_option maxRecDepth 65536 in
set_option maxHeartbeats 500000 in
/-- Before the loop the buffers hold the first state. -/
theorem atTrip_entry : AtTrip (entryContents preI m c) (start m c) 0 := by
  constructor <;> (simp only [entryContents, afterL_cons, afterL_nil]; after_reads_simp) <;> rfl

/-- Before trip `n` the buffers hold state `n`. -/
theorem atTrip_states : ∀ n, AtTrip (STEP^[n] (entryContents preI m c)) (states m c n) n
  | 0 => atTrip_entry m c
  | n + 1 => by
    rw [Function.iterate_succ_apply']
    exact atTrip_step (atTrip_states n)

set_option maxRecDepth 8192 in
/-- The run's result: the closing operations applied to the state after 128 trips; the arguments are unchanged. -/
theorem run_states (ρ : Dev nD → PrngReg) :
    θ_run (defs (F := F)) (onTc (τ := τ) (main (F := F))) ⟨m, fun _ => 0, ρ⟩ fun r => ∀ c : Dev nD,
      r.2.mem ((c.tc : Thread nD τ).loc main_v68) = Step.R_main_v68 (states m c 128)
          (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (Value.run m ρ)
  unfold out_main_v68
  rw [(atTrip_states m c 128).out, iter_main_arg0, iter_main_arg1]
  rfl

end Cert.ReferenceIdeal.Iter

end
-- ==== Proof.FfnValue.lean ====
/- The feed-forward block: each row block that the kernel writes is that row block of the reference's array. -/
module

public import proofs.«01_k».proof.Proof.Gen.FfnIdeal.Value
public import proofs.«01_k».proof.Proof.Gen.FfnReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnReferenceIdeal.Value
open Cert.FfnReferenceIdeal Cert.FfnReferenceIdeal.Gen

/-- The reference's normalised rows. -/
def normed (X : FVec Ideal S2x8192x1024 .f32) (g : FVec Ideal S1024 .f32) : FVec Ideal S16384x1024 .f32 :=
  mulf (mulf (shapeCast _ X shapeCasts_S2x8192x1024_S16384x1024) (broadcastInDim S16384x1024 ![0, 1] bcast_S16384x1_S16384x1024_0_1 (Host.rsqrt (addf (Host.divf (broadcastInDim S16384x1 ![0] bcast_S16384_S16384x1_0 (Host.reduceAdd (mulf (shapeCast _ X shapeCasts_S2x8192x1024_S16384x1024) (shapeCast _ X shapeCasts_S2x8192x1024_S16384x1024)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- The reference's gate and up projections. -/
def gateUp (X : FVec Ideal S2x8192x1024 .f32) (g : FVec Ideal S1024 .f32) (wi : FVec Ideal S1024x5632 .f32) :
    FVec Ideal S16384x5632 .f32 :=
  Host.dotGeneral dot_S16384x1024_S1024x5632_S16384x5632_1_0_0_1_n_n none (normed X g) wi

/-- The reference's result: the input plus the down projection of the gated product. -/
def result (X : FVec Ideal S2x8192x1024 .f32) (g : FVec Ideal S1024 .f32) (wi : FVec Ideal S1024x5632 .f32)
    (wo : FVec Ideal S2816x1024 .f32) : FVec Ideal S16384x1024 .f32 :=
  addf (shapeCast _ X shapeCasts_S2x8192x1024_S16384x1024) (Host.dotGeneral dot_S16384x2816_S2816x1024_S16384x1024_1_0_0_1_n_n none (mulf (mulf (extractStridedSlice S16384x2816 ![0, 0] (gateUp X g wi) slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] (gateUp X g wi) slices_S16384x5632_S16384x2816_0_0)))))) (extractStridedSlice S16384x2816 ![0, 2816] (gateUp X g wi) slices_S16384x5632_S16384x2816_0_2816)) wo)

end Cert.FfnReferenceIdeal.Value

namespace Cert.FfnIdeal.Value
open Cert.FfnIdeal Cert.FfnIdeal.Gen
open Cert.FfnReferenceIdeal.Value (normed gateUp result)

variable (m : (ℓ : Loc nD τ sig) → Buf (Elt Ideal) ℓ)

/-- The block of each window at a grid point: the rows move with the point, the weights stay. -/
theorem idx : ∀ t : Fin cfg0.N, win0_0.index t = ![t.val, 0] ∧ win0_1.index t = ![0, 0] ∧ win0_2.index t = ![0, 0]
    ∧ win0_3.index t = ![0, 0] ∧ win0_4.index t = ![t.val, 0] := (by decide +kernel : ∀ t : Fin grid0.N, _)

/-- The body's stored block at variables: where its input rows are the reference's rows, so are its result rows. -/
theorem pay_eq (x : FVec Ideal S256x1024 .f32) (g : FVec Ideal S1x1024 .f32) (wi : FVec Ideal S1024x5632 .bf16)
    (wo : FVec Ideal S2816x1024 .bf16) (X : FVec Ideal S2x8192x1024 .f32) (G : FVec Ideal S1024 .f32)
    (WI : FVec Ideal S1024x5632 .f32) (WO : FVec Ideal S2816x1024 .f32) (r : Fin 256) (R : Fin 16384)
    (hx : ∀ k : Fin 1024, x (ix2 r k) = X (ix3 ⟨R / 8192, by omega⟩ ⟨R % 8192, by omega⟩ k))
    (hg : ∀ k : Fin 1024, g (ix2 0 k) = G (ix1 k))
    (hi : ∀ (k : Fin 1024) (n : Fin 5632), wi (ix2 k n) = WI (ix2 k n))
    (ho : ∀ (k : Fin 2816) (n : Fin 1024), wo (ix2 k n) = WO (ix2 k n)) (l : Fin 1024) :
    k0_pay1 x g wi wo (ix2 r l) = result X G WI WO (ix2 R l) := by
  pointwise [k0_pay1, result, gateUp, normed, hx, hg, hi, ho]
  simp only [zero_sub]

/-- The kernel's array after the run is the reference's. -/
theorem final (c : Dev nD) : (dats m 0 c).arrAt 4 (cfgs 0).N
    = result (m (c.tc.loc main_arg0)) (m (c.tc.loc main_arg1)) (m (c.tc.loc main_arg2)) (m (c.tc.loc main_arg3)) := by
  refine (dats m 0 c).arrAt_eq_of_covers 4 _ (by decide +kernel) fun t _ y => ?_
  blk_simp
  rw [after0_4]
  frame_out
  obtain ⟨r, l, rfl⟩ : ∃ (r : Fin 256) (l : Fin 1024), y = ix2 r l := ⟨y 0, y 1, eq_ix2 y⟩
  have ht : t.val < 64 := t.isLt
  refine (pay_eq _ _ _ _ (m (c.tc.loc main_arg0)) (m (c.tc.loc main_arg1)) (m (c.tc.loc main_arg2)) (m (c.tc.loc main_arg3))
    r ⟨t.val * 256 + r.val, by omega⟩ ?_ ?_ ?_ ?_ l).trans ?_
  · intro k
    blk_point [iblk, V, idx t]
  · intro k
    blk_point [iblk, V, idx t]
  · intro k n
    blk_point [iblk, V, idx t]
  · intro k n
    blk_point [iblk, V, idx t]
  · blk_point [idx t]

end Cert.FfnIdeal.Value

end
-- ==== Proof.MergeValue.lean ====
/- The merge of the two branches: each row block that the kernel writes is that row block of the reference's array. -/
module

public import proofs.«01_k».proof.Proof.Gen.MergeIdeal.Value
public import proofs.«01_k».proof.Proof.Gen.MergeReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeReferenceIdeal.Value
open Cert.MergeReferenceIdeal Cert.MergeReferenceIdeal.Gen

/-- The reference's normalised rows. -/
def normed (X : FVec Ideal S2x8192x1024 .f32) (G : FVec Ideal S1024 .f32) : FVec Ideal S16384x1024 .f32 :=
  mulf (mulf (shapeCast _ X shapeCasts_S2x8192x1024_S16384x1024) (broadcastInDim S16384x1024 ![0, 1] bcast_S16384x1_S16384x1024_0_1 (Host.rsqrt (addf (Host.divf (broadcastInDim S16384x1 ![0] bcast_S16384_S16384x1_0 (Host.reduceAdd (mulf (shapeCast _ X shapeCasts_S2x8192x1024_S16384x1024) (shapeCast _ X shapeCasts_S2x8192x1024_S16384x1024)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 G))

/-- The reference's gate projections before the sigmoid. -/
def gates (X : FVec Ideal S2x8192x1024 .f32) (G : FVec Ideal S1024 .f32) (WG : FVec Ideal S1024x2048 .f32) :
    FVec Ideal S16384x2048 .f32 :=
  Host.dotGeneral dot_S16384x1024_S1024x2048_S16384x2048_1_0_0_1_n_n none (normed X G) WG

/-- The reference's result: the input plus the output projection of the gated sum of the two branches. -/
def result (X : FVec Ideal S2x8192x1024 .f32) (YA YH : FVec Ideal S16384x512 .bf16) (G : FVec Ideal S1024 .f32)
    (WG : FVec Ideal S1024x2048 .f32) (WA WH : FVec Ideal S512x1024 .f32) (WO : FVec Ideal S1024x1024 .f32) :
    FVec Ideal S16384x1024 .f32 :=
  addf (shapeCast _ X shapeCasts_S2x8192x1024_S16384x1024) (Host.dotGeneral dot_S16384x1024_S1024x1024_S16384x1024_1_0_0_1_n_n none (addf (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 0] (gates X G WG) slices_S16384x2048_S16384x1024_0_0))))) (Host.dotGeneral dot_S16384x512_S512x1024_S16384x1024_1_0_0_1_n_n none (extf .f32 YA bitsLt_bf16_f32) WA)) (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 1024] (gates X G WG) slices_S16384x2048_S16384x1024_0_1024))))) (Host.dotGeneral dot_S16384x512_S512x1024_S16384x1024_1_0_0_1_n_n none (extf .f32 YH bitsLt_bf16_f32) WH))) WO)

end Cert.MergeReferenceIdeal.Value

namespace Cert.MergeIdeal.Value
open Cert.MergeIdeal Cert.MergeIdeal.Gen
open Cert.MergeReferenceIdeal.Value (normed gates result)

variable (m : (ℓ : Loc nD τ sig) → Buf (Elt Ideal) ℓ)

/-- The block of each window at a grid point: the rows move with the point, the weights stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] := (by decide +kernel : ∀ t : Fin grid0.N, _)

/-- The body's stored block at variables: where its input rows are the reference's rows, so are its result rows. -/
theorem pay_eq (x : FVec Ideal S512x1024 .f32) (ya yh : FVec Ideal S512x512 .bf16) (g : FVec Ideal S1x1024 .f32)
    (wg : FVec Ideal S1024x2048 .bf16) (wa wh : FVec Ideal S512x1024 .bf16) (wo : FVec Ideal S1024x1024 .bf16)
    (X : FVec Ideal S2x8192x1024 .f32) (YA YH : FVec Ideal S16384x512 .bf16) (G : FVec Ideal S1024 .f32)
    (WG : FVec Ideal S1024x2048 .f32) (WA WH : FVec Ideal S512x1024 .f32) (WO : FVec Ideal S1024x1024 .f32)
    (r : Fin 512) (R : Fin 16384)
    (hx : ∀ k : Fin 1024, x (ix2 r k) = X (ix3 ⟨R / 8192, by omega⟩ ⟨R % 8192, by omega⟩ k))
    (hya : ∀ k : Fin 512, ya (ix2 r k) = YA (ix2 R k)) (hyh : ∀ k : Fin 512, yh (ix2 r k) = YH (ix2 R k))
    (hg : ∀ k : Fin 1024, g (ix2 0 k) = G (ix1 k))
    (hwg : ∀ (k : Fin 1024) (n : Fin 2048), wg (ix2 k n) = WG (ix2 k n))
    (hwa : ∀ (k : Fin 512) (n : Fin 1024), wa (ix2 k n) = WA (ix2 k n))
    (hwh : ∀ (k : Fin 512) (n : Fin 1024), wh (ix2 k n) = WH (ix2 k n))
    (hwo : ∀ (k : Fin 1024) (n : Fin 1024), wo (ix2 k n) = WO (ix2 k n)) (l : Fin 1024) :
    k0_pay1 (k0_pay2 x) (k0_pay3 x g wg) (k0_pay4 ya wa) (k0_pay5 yh wh) (k0_pay6 x g wg) wo (ix2 r l)
      = result X YA YH G WG WA WH WO (ix2 R l) := by
  pointwise [k0_pay1, k0_pay2, k0_pay3, k0_pay4, k0_pay5, k0_pay6, result, gates, normed, hx, hya, hyh, hg, hwg, hwa, hwh, hwo]
  simp only [zero_sub]

/-- The kernel's array after the run is the reference's. -/
theorem final (c : Dev nD) : (dats m 0 c).arrAt 8 (cfgs 0).N
    = result (m (c.tc.loc main_arg0)) (m (c.tc.loc main_arg1)) (m (c.tc.loc main_arg2)) (m (c.tc.loc main_arg3))
        (m (c.tc.loc main_arg4)) (m (c.tc.loc main_arg5)) (m (c.tc.loc main_arg6)) (m (c.tc.loc main_arg7)) := by
  refine (dats m 0 c).arrAt_eq_of_covers 8 _ (by decide +kernel) fun t _ y => ?_
  blk_simp
  rw [after0_8]
  frame_out
  obtain ⟨r, l, rfl⟩ : ∃ (r : Fin 512) (l : Fin 1024), y = ix2 r l := ⟨y 0, y 1, eq_ix2 y⟩
  have ht : t.val < 32 := t.isLt
  refine (pay_eq _ _ _ _ _ _ _ _ (m (c.tc.loc main_arg0)) (m (c.tc.loc main_arg1)) (m (c.tc.loc main_arg2))
    (m (c.tc.loc main_arg3)) (m (c.tc.loc main_arg4)) (m (c.tc.loc main_arg5)) (m (c.tc.loc main_arg6))
    (m (c.tc.loc main_arg7)) r ⟨t.val * 512 + r.val, by omega⟩ ?_ ?_ ?_ ?_ ?_ ?_ ?_ ?_ l).trans ?_
  · intro k; blk_point [iblk, V, idx t]
  · intro k; blk_point [iblk, V, idx t]
  · intro k; blk_point [iblk, V, idx t]
  · intro k; blk_point [iblk, V, idx t]
  · intro k n; blk_point [iblk, V, idx t]
  · intro k n; blk_point [iblk, V, idx t]
  · intro k n; blk_point [iblk, V, idx t]
  · intro k n; blk_point [iblk, V, idx t]
  · blk_point [idx t]

end Cert.MergeIdeal.Value

end
-- ==== Proof.HgrnBody.lean ====
/- What one chunk of the recurrence's kernel computes, head by head and block by block, as functions of the vectors it loads. -/
module

public import proofs.«01_k».proof.Proof.Gen.KernelIdeal.Value
public import Idealize.ShloMosaic.Lib.Pipeline.ValueKit
public import Idealize.ShloMosaic.Lib.Pointwise

@[expose] public section

set_option maxRecDepth 65536

noncomputable section

open Idealize.ShloMosaic Idealize.ShloMosaic.TcCoe Idealize.SL.Sem

namespace Cert.KernelIdeal.Body
open Cert.KernelIdeal Cert.KernelIdeal.Gen

variable {F : FTy → Type} [FloatOps F]

/-- Row `s` of a block of 16 rows can be cut out. -/
theorem slices_row (s : Fin 16) : S16x128.Slices ![s.val, 0] S1x128 := by revert s; decide
/-- Rows `16 i` to `16 i + 15` of a chunk can be cut out. -/
theorem slices_block (i : Fin 4) : S64x128.Slices ![16 * i.val, 0] S16x128 := by revert i; decide
/-- The columns of head `h` can be cut out of a chunk. -/
theorem slices_head (h : Fin 4) : S64x512.Slices ![0, 128 * h.val] S64x128 := by revert h; decide
/-- The columns of head `h` can be cut out of a row. -/
theorem slices_head_row (h : Fin 4) : S1x512.Slices ![0, 128 * h.val] S1x128 := by revert h; decide

/-- Column `s` of a diagonal block of scores: the rows' products with row `s` of `k`, decayed from `s` to the row. -/
def scoreCol (s : Fin 16) (b q k : FVec F S16x128 .f32) : FVec F S16x1 .f32 :=
  shapeCast S16x1 (multiReduction .add [1] S16
    (mulf (mulf q (broadcastTo S16x128 (extractStridedSlice S1x128 ![s.val, 0] k (slices_row s)) broadcasts_S1x128_S16x128))
      (exp (select (broadcastTo S16x128 (shapeCast S16x1 (cmpi .sge (iota .tc S16x1 32 [0] iota_S16x1_d0_w32)
          (broadcast S16x1 (BitVec.ofNat 32 s.val))) shapeCasts_S16x1_S16x1) broadcasts_S16x1_S16x128)
        (subf b (broadcastTo S16x128 (extractStridedSlice S1x128 ![s.val, 0] b (slices_row s)) broadcasts_S1x128_S16x128))
        (broadcast S16x128 (Scalar.ofBits (F := F) .f32 0xFF800000#32)))))
    0x00000000#32 reduces_S16x128_S16 (.inl rfl) rfl) shapeCasts_S16_S16x1

/-- The diagonal block of scores after its first `n` columns. -/
def scores (b q k : FVec F S16x128 .f32) : (n : ℕ) → n ≤ 16 → FVec F S16x16 .f32
  | 0, _ => broadcast S16x16 (Scalar.ofBits .f32 0x00000000#32)
  | n + 1, h => select (cmpi .eq (iota .tc S16x16 32 [1] iota_S16x16_d1_w32) (broadcast S16x16 (BitVec.ofNat 32 n)))
      (broadcastTo S16x16 (shapeCast S16x1 (scoreCol ⟨n, h⟩ b q k) shapeCasts_S16x1_S16x1) broadcasts_S16x1_S16x16)
      (scores b q k n (Nat.le_of_succ_le h))

/-- Block `i`'s rows of a chunk. -/
def rows (i : Fin 4) (x : FVec F S64x128 .f32) : FVec F S16x128 .f32 :=
  extractStridedSlice S16x128 ![16 * i.val, 0] x (slices_block i)

/-- A block's output from the carried state and from the block's own rows. -/
def ownPart (i : Fin 4) (b q k : FVec F S64x128 .f32) (v : FVec F S64x128 .bf16) (inter : FVec F S64x128 .f32) :
    FVec F S16x128 .f32 :=
  addf (extractStridedSlice S16x128 ![16 * i.val, 0] inter (slices_block i))
    (matmul dot_S16x16_S16x128_S16x128_1_0_0_1_n_n none
      (truncf .bf16 (scores (rows i b) (rows i q) (rows i k) 16 (Nat.le_refl 16)) bitsLt_bf16_f32)
      (extractStridedSlice S16x128 ![16 * i.val, 0] v (slices_block i)) (constant S16x128 .f32 0x00000000#32))

/-- A block's queries, decayed from the last row before the block. -/
def qHat (i : Fin 4) (b q : FVec F S64x128 .f32) (r : FVec F S1x128 .f32) : FVec F S16x128 .bf16 :=
  truncf .bf16 (mulf (rows i q) (exp (subf (rows i b) (broadcastTo S16x128 r broadcasts_S1x128_S16x128)))) bitsLt_bf16_f32

/-- A block's output from the rows before it, `p` of them: the keys are decayed to the last of these rows. -/
def priorPart (i : Fin 4) {p w : Shape} (d₁ : DotDims S16x128 p w) (d₂ : DotDims w p S16x128)
    (hp : S64x128.Slices ![0, 0] p) (hb : S1x128.Broadcasts p) (b q k : FVec F S64x128 .f32) (v : FVec F S64x128 .bf16)
    (r : FVec F S1x128 .f32) : FVec F S16x128 .f32 :=
  matmul d₂ none (truncf .bf16 (matmul d₁ none (qHat i b q r)
      (truncf .bf16 (mulf (extractStridedSlice p ![0, 0] k hp)
        (exp (subf (broadcastTo p r hb) (extractStridedSlice p ![0, 0] b hp)))) bitsLt_bf16_f32)
      (constant w .f32 0x00000000#32)) bitsLt_bf16_f32)
    (extractStridedSlice p ![0, 0] v hp) (constant S16x128 .f32 0x00000000#32)

/-- The output that the state carried into the chunk gives. -/
def interPart (qi : FVec F S64x128 .f32) (st : FVec F S1x128x128 .f32) : FVec F S64x128 .f32 :=
  matmul dot_S64x128_S128x128_S64x128_1_1_0_0_n_n none (truncf .bf16 qi bitsLt_bf16_f32)
    (truncf .bf16 (shapeCast S128x128 st shapeCasts_S1x128x128_S128x128) bitsLt_bf16_f32) (constant S64x128 .f32 0x00000000#32)

/-- A head's output before the norm: its four blocks. -/
def headOut (b q k qi v : FVec F S64x128 .f32) (st : FVec F S1x128x128 .f32) : FVec F S64x128 .f32 :=
  concatenate S64x128 0 [
    ⟨S16x128, ownPart 0 b q k (truncf .bf16 v bitsLt_bf16_f32) (interPart qi st)⟩,
    ⟨S16x128, addf (ownPart 1 b q k (truncf .bf16 v bitsLt_bf16_f32) (interPart qi st))
      (priorPart 1 dot_S16x128_S16x128_S16x16_1_1_0_0_n_n dot_S16x16_S16x128_S16x128_1_0_0_1_n_n
        slices_S64x128_o0_0_S16x128 broadcasts_S1x128_S16x128 b q k (truncf .bf16 v bitsLt_bf16_f32)
        (extractStridedSlice S1x128 ![15, 0] b slices_S64x128_o15_0_S1x128))⟩,
    ⟨S16x128, addf (ownPart 2 b q k (truncf .bf16 v bitsLt_bf16_f32) (interPart qi st))
      (priorPart 2 dot_S16x128_S32x128_S16x32_1_1_0_0_n_n dot_S16x32_S32x128_S16x128_1_0_0_1_n_n
        slices_S64x128_o0_0_S32x128 broadcasts_S1x128_S32x128 b q k (truncf .bf16 v bitsLt_bf16_f32)
        (extractStridedSlice S1x128 ![31, 0] b slices_S64x128_o31_0_S1x128))⟩,
    ⟨S16x128, addf (ownPart 3 b q k (truncf .bf16 v bitsLt_bf16_f32) (interPart qi st))
      (priorPart 3 dot_S16x128_S48x128_S16x48_1_1_0_0_n_n dot_S16x48_S48x128_S16x128_1_0_0_1_n_n
        slices_S64x128_o0_0_S48x128 broadcasts_S1x128_S48x128 b q k (truncf .bf16 v bitsLt_bf16_f32)
        (extractStridedSlice S1x128 ![47, 0] b slices_S64x128_o47_0_S1x128))⟩]
    concatenates_S16x128_S16x128_S16x128_S16x128_S64x128_d0

/-- A head's state after the chunk, of its state before. -/
def headState (bl : FVec F S1x128 .f32) (kc v : FVec F S64x128 .f32) (st : FVec F S1x128x128 .f32) : FVec F S1x128x128 .f32 :=
  shapeCast S1x128x128 (addf
    (mulf (broadcastTo S128x128 (exp bl) broadcasts_S1x128_S128x128) (shapeCast S128x128 st shapeCasts_S1x128x128_S128x128))
    (matmul dot_S128x64_S64x128_S128x128_1_0_0_1_n_n none
      (truncf .bf16 (transpose S128x64 [1, 0] v transposes_S64x128_p1_0_S128x64) bitsLt_bf16_f32)
      (truncf .bf16 kc bitsLt_bf16_f32) (constant S128x128 .f32 0x00000000#32))) shapeCasts_S128x128_S1x128x128

/-- A head's output, normalised and gated. -/
def headNorm (o : FVec F S64x128 .f32) (g : FVec F S1x128 .f32) (gate : FVec F S64x128 .f32) : FVec F S64x128 .f32 :=
  mulf (mulf (mulf o (broadcastTo S64x128 (rsqrt (addf (divf (shapeCast S64x1 (multiReduction .add [1] S64 (mulf o o)
      0x00000000#32 reduces_S64x128_S64 (.inl rfl) rfl) shapeCasts_S64_S64x1)
      (broadcast S64x1 (Scalar.ofBits .f32 0x43000000#32))) (broadcast S64x1 (Scalar.ofBits .f32 0x358637BD#32))))
      broadcasts_S64x1_S64x128)) (broadcastTo S64x128 g broadcasts_S1x128_S64x128)) gate

/-- Head `h`'s columns of a chunk. -/
def cols (h : Fin 4) (x : FVec F S64x512 .f32) : FVec F S64x128 .f32 :=
  extractStridedSlice S64x128 ![0, 128 * h.val] x (slices_head h)
/-- Head `h`'s columns of a row. -/
def colsRow (h : Fin 4) (x : FVec F S1x512 .f32) : FVec F S1x128 .f32 :=
  extractStridedSlice S1x128 ![0, 128 * h.val] x (slices_head_row h)

/-- The logarithm of the chunk's forget gates, from the two rows of constants and the projection. -/
abbrev logF (l0 l1 : FVec F S1x512 .f32) (x1 : FVec F S64x512 .f32) : FVec F S64x512 .f32 := k0_pay8 l0 l1 x1
/-- The chunk's cumulated logarithms. -/
abbrev cumF (l0 l1 : FVec F S1x512 .f32) (x1 : FVec F S64x512 .f32) (lt : FVec F S64x64 .f32) : FVec F S64x512 .f32 :=
  k0_pay12 (logF l0 l1 x1) lt
/-- The chunk's keys. -/
abbrev keys (l2 : FVec F S1x512 .f32) (x1 : FVec F S64x512 .f32) : FVec F S64x512 .f32 :=
  k0_pay9 (k0_pay3 l2) (k0_pay5 x1) (Scalar.ofBits .f32 0x00000000#32)
/-- The chunk's queries. -/
abbrev queries (x0 : FVec F S64x512 .f32) : FVec F S64x512 .f32 := k0_pay10 (k0_pay6 x0)

/-- Head `h` of a chunk: output, normalised and gated, from the loaded vectors, the head's values and the head's state. -/
def head (h : Fin 4) (x0 x1 x3 : FVec F S64x512 .f32) (l0 l1 l2 l3 : FVec F S1x512 .f32) (lt : FVec F S64x64 .f32)
    (v : FVec F S64x128 .f32) (st : FVec F S1x128x128 .f32) : FVec F S64x128 .f32 :=
  headNorm (headOut (cols h (cumF l0 l1 x1 lt)) (cols h (queries x0)) (cols h (keys l2 x1))
      (cols h (mulf (queries x0) (exp (cumF l0 l1 x1 lt))))
      (shapeCast S64x128 v shapeCasts_S64x128_S64x128) st)
    (colsRow h (shapeCast S1x512 l3 shapeCasts_S1x512_S1x512)) (cols h (k0_pay11 (k0_pay7 x3)))

/-- Head `h` of a chunk: its state after the chunk. -/
def next (h : Fin 4) (x1 : FVec F S64x512 .f32) (l0 l1 l2 : FVec F S1x512 .f32) (lt : FVec F S64x64 .f32)
    (v : FVec F S64x128 .f32) (st : FVec F S1x128x128 .f32) : FVec F S1x128x128 .f32 :=
  headState (colsRow h (k0_pay13 (logF l0 l1 x1) lt))
    (cols h (mulf (keys l2 x1) (exp (subf (broadcastTo S64x512 (k0_pay13 (logF l0 l1 x1) lt) broadcasts_S1x512_S64x512)
      (cumF l0 l1 x1 lt)))))
    (shapeCast S64x128 v shapeCasts_S64x128_S64x128) st

/-- The chunk's output from the loaded vectors. -/
def chunkOut (x0 x1 x3 : FVec F S64x512 .f32) (l0 l1 l2 l3 : FVec F S1x512 .f32) (lt : FVec F S64x64 .f32)
    (v0 v1 v2 v3 : FVec F S64x128 .f32) (s0 s1 s2 s3 : FVec F S1x128x128 .f32) : FVec F S64x512 .bf16 :=
  truncf .bf16 (concatenate S64x512 1 [⟨S64x128, head 0 x0 x1 x3 l0 l1 l2 l3 lt v0 s0⟩,
    ⟨S64x128, head 1 x0 x1 x3 l0 l1 l2 l3 lt v1 s1⟩, ⟨S64x128, head 2 x0 x1 x3 l0 l1 l2 l3 lt v2 s2⟩,
    ⟨S64x128, head 3 x0 x1 x3 l0 l1 l2 l3 lt v3 s3⟩]
    concatenates_S64x128_S64x128_S64x128_S64x128_S64x512_d1) bitsLt_bf16_f32

end Cert.KernelIdeal.Body

end
-- ==== Proof.HgrnPoint.lean ====
/- One grid point of the recurrence's kernel: its output and the states it leaves, as the chunk's functions of the loaded vectors. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import proofs.«01_k».proof.Proof.HgrnBody

@[expose] public section

set_option maxRecDepth 65536

noncomputable section

open Idealize.ShloMosaic Idealize.ShloMosaic.TcCoe Idealize.ShloMosaic.Tactic Idealize.SL.Sem

namespace Cert.KernelIdeal.Body
open Cert.KernelIdeal Cert.KernelIdeal.Gen

variable {F : FTy → Type} [FloatOps F]

/-- Row 0 of the host's table. -/
abbrev row0 (x4 : Vec F S8x512 .f32) : Vec F S1x512 .f32 := View.ld x4 (Rect.unit ![0, 0] S1x512.size inb_S8x512_S1x512_0_0)
/-- Row 1 of the host's table. -/
abbrev row1 (x4 : Vec F S8x512 .f32) : Vec F S1x512 .f32 := View.ld x4 (Rect.unit ![1, 0] S1x512.size inb_S8x512_S1x512_1_0)
/-- Row 2 of the host's table. -/
abbrev row2 (x4 : Vec F S8x512 .f32) : Vec F S1x512 .f32 := View.ld x4 (Rect.unit ![2, 0] S1x512.size inb_S8x512_S1x512_2_0)
/-- Row 3 of the host's table. -/
abbrev row3 (x4 : Vec F S8x512 .f32) : Vec F S1x512 .f32 := View.ld x4 (Rect.unit ![3, 0] S1x512.size inb_S8x512_S1x512_3_0)
/-- The values of head 0. -/
abbrev val0 (x2 : Vec F S64x512 .f32) : Vec F S64x128 .f32 := View.ld x2 (Rect.unit ![0, 0] S64x128.size inb_S64x512_S64x128_0_0)
/-- The values of head 1. -/
abbrev val1 (x2 : Vec F S64x512 .f32) : Vec F S64x128 .f32 := View.ld x2 (Rect.unit ![0, 128] S64x128.size inb_S64x512_S64x128_0_128)
/-- The values of head 2. -/
abbrev val2 (x2 : Vec F S64x512 .f32) : Vec F S64x128 .f32 := View.ld x2 (Rect.unit ![0, 256] S64x128.size inb_S64x512_S64x128_0_256)
/-- The values of head 3. -/
abbrev val3 (x2 : Vec F S64x512 .f32) : Vec F S64x128 .f32 := View.ld x2 (Rect.unit ![0, 384] S64x128.size inb_S64x512_S64x128_0_384)
/-- The state of head 0. -/
abbrev st0 (s : Vec F S4x128x128 .f32) : Vec F S1x128x128 .f32 := View.ld s (Rect.unit ![0, 0, 0] S1x128x128.size inb_S4x128x128_S1x128x128_0_0_0)
/-- The state of head 1. -/
abbrev st1 (s : Vec F S4x128x128 .f32) : Vec F S1x128x128 .f32 := View.ld s (Rect.unit ![1, 0, 0] S1x128x128.size inb_S4x128x128_S1x128x128_1_0_0)
/-- The state of head 2. -/
abbrev st2 (s : Vec F S4x128x128 .f32) : Vec F S1x128x128 .f32 := View.ld s (Rect.unit ![2, 0, 0] S1x128x128.size inb_S4x128x128_S1x128x128_2_0_0)
/-- The state of head 3. -/
abbrev st3 (s : Vec F S4x128x128 .f32) : Vec F S1x128x128 .f32 := View.ld s (Rect.unit ![3, 0, 0] S1x128x128.size inb_S4x128x128_S1x128x128_3_0_0)

/-- A chunk's output from the point's blocks and the state it enters with. -/
abbrev pointOut (x0 x1 x2 x3 : Vec F S64x512 .f32) (x4 : Vec F S8x512 .f32) (x5 : Vec F S64x64 .f32) (s : Vec F S4x128x128 .f32) :
    Vec F S64x512 .bf16 :=
  chunkOut x0 x1 x3 (row0 x4) (row1 x4) (row2 x4) (row3 x4) x5 (val0 x2) (val1 x2) (val2 x2) (val3 x2) (st0 s) (st1 s) (st2 s) (st3 s)

/-- The states after a chunk, head by head, from the state it enters with. -/
def pointNext (x1 x2 : Vec F S64x512 .f32) (x4 : Vec F S8x512 .f32) (x5 : Vec F S64x64 .f32) (s : Vec F S4x128x128 .f32) :
    Fin 4 → Vec F S1x128x128 .f32
  | 0 => next 0 x1 (row0 x4) (row1 x4) (row2 x4) x5 (val0 x2) (st0 s)
  | 1 => next 1 x1 (row0 x4) (row1 x4) (row2 x4) x5 (val1 x2) (st1 s)
  | 2 => next 2 x1 (row0 x4) (row1 x4) (row2 x4) x5 (val2 x2) (st2 s)
  | 3 => next 3 x1 (row0 x4) (row1 x4) (row2 x4) x5 (val3 x2) (st3 s)

/-- The index of a state's entry inside its head's piece. -/
abbrev within (i : S4x128x128.Idx) : S1x128x128.Idx := ix3 0 (i 1) (i 2)

/-- A piece `p` that stores head `h`'s state: read at an entry of that head. -/
theorem piece_eq {f : Fin 4 → Vec F S1x128x128 .f32} {p : Vec F S1x128x128 .f32} (i : S4x128x128.Idx) (z : S1x128x128.Idx) (h : Fin 4)
    (hz0 : (i 0 : ℕ) = h.val + (z 0 : ℕ)) (hz1 : (i 1 : ℕ) = z 1) (hz2 : (i 2 : ℕ) = z 2) (g : Vec F S1x128x128 .f32)
    (hp : p = g) (hg : g = f h := by rfl) : p z = f (i 0) (within i) := by
  have hz : (z 0 : ℕ) = 0 := by have := (z 0).isLt; change (z 0 : ℕ) < 1 at this; omega
  have e0 : i 0 = h := Fin.ext (by rw [hz0, hz]; rfl)
  have e1 : within i = z := by
    funext a
    match a with
    | 0 => exact Fin.ext hz.symm
    | 1 => exact Fin.ext hz1
    | 2 => exact Fin.ext hz2
  rw [e1, e0, hp, hg]

/-- A later chunk of a sequence: its output. -/
theorem out_later (c : Dev nD) (i : grid0.Coords) (arg2 : Memref sig .tc .vmem S64x512 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S8x512 .f32) (harg6 : arg6.IsWhole) (arg7 : Memref sig .tc .vmem S64x64 .f32) (harg7 : arg7.IsWhole) (arg8 : Memref sig .tc .vmem S64x512 .bf16) (harg8 : arg8.IsWhole) (arg9 : Memref sig .tc .vmem S4x128x128 .f32) (harg9 : arg9.IsWhole) (hc0 : ¬cond0_0 i)
    (x0 : Vec F S64x512 .f32) (x1 : Vec F S64x512 .f32) (x2 : Vec F S64x512 .f32) (x3 : Vec F S64x512 .f32) (x4 : Vec F S8x512 .f32) (x5 : Vec F S64x64 .f32) (xs0 : Vec F S4x128x128 .f32) :
    out0_B_6 c i arg2 harg2 arg3 harg3 arg4 harg4 arg5 harg5 arg6 harg6 arg7 harg7 arg8 harg8 arg9 harg9 hc0 x0 x1 x2 x3 x4 x5 xs0 = pointOut x0 x1 x2 x3 x4 x5 xs0 := by
  frame_out
  sl_kernel_rfl

/-- The first chunk of a sequence: its output, from zero states. -/
theorem out_first (c : Dev nD) (i : grid0.Coords) (arg2 : Memref sig .tc .vmem S64x512 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S8x512 .f32) (harg6 : arg6.IsWhole) (arg7 : Memref sig .tc .vmem S64x64 .f32) (harg7 : arg7.IsWhole) (arg8 : Memref sig .tc .vmem S64x512 .bf16) (harg8 : arg8.IsWhole) (arg9 : Memref sig .tc .vmem S4x128x128 .f32) (harg9 : arg9.IsWhole) (hc0 : cond0_0 i)
    (x0 : Vec F S64x512 .f32) (x1 : Vec F S64x512 .f32) (x2 : Vec F S64x512 .f32) (x3 : Vec F S64x512 .f32) (x4 : Vec F S8x512 .f32) (x5 : Vec F S64x64 .f32) :
    out0_A_6 c i arg2 harg2 arg3 harg3 arg4 harg4 arg5 harg5 arg6 harg6 arg7 harg7 arg8 harg8 arg9 harg9 hc0 x0 x1 x2 x3 x4 x5 = pointOut x0 x1 x2 x3 x4 x5 k0_pay2 := by
  frame_out
  simp (disch := decide) only [↓View.readCov_skip, ↓View.readCov_fill]
  sl_kernel_rfl

/-- A later chunk of a sequence: the states it leaves. -/
theorem state_later (c : Dev nD) (i : grid0.Coords) (arg2 : Memref sig .tc .vmem S64x512 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S8x512 .f32) (harg6 : arg6.IsWhole) (arg7 : Memref sig .tc .vmem S64x64 .f32) (harg7 : arg7.IsWhole) (arg8 : Memref sig .tc .vmem S64x512 .bf16) (harg8 : arg8.IsWhole) (arg9 : Memref sig .tc .vmem S4x128x128 .f32) (harg9 : arg9.IsWhole) (hc0 : ¬cond0_0 i)
    (x0 : Vec F S64x512 .f32) (x1 : Vec F S64x512 .f32) (x2 : Vec F S64x512 .f32) (x3 : Vec F S64x512 .f32) (x4 : Vec F S8x512 .f32) (x5 : Vec F S64x64 .f32) (xs0 : Vec F S4x128x128 .f32) (y : S4x128x128.Idx) :
    sout0_B_0 c i arg2 harg2 arg3 harg3 arg4 harg4 arg5 harg5 arg6 harg6 arg7 harg7 arg8 harg8 arg9 harg9 hc0 x0 x1 x2 x3 x4 x5 xs0 y = pointNext x1 x2 x4 x5 xs0 (y 0) (within y) := by
  frame_out
  canon_tiles z hz
  · exact piece_eq y z 3 hz0 hz1 hz2 (pointNext x1 x2 x4 x5 xs0 3) (by sl_kernel_rfl)
  · exact piece_eq y z 2 hz0 hz1 hz2 (pointNext x1 x2 x4 x5 xs0 2) (by sl_kernel_rfl)
  · exact piece_eq y z 1 hz0 hz1 hz2 (pointNext x1 x2 x4 x5 xs0 1) (by sl_kernel_rfl)
  · exact piece_eq y z 0 (hz0.trans (Nat.zero_add _).symm) hz1 hz2 (pointNext x1 x2 x4 x5 xs0 0) (by sl_kernel_rfl)

/-- The first chunk of a sequence: the states it leaves. -/
theorem state_first (c : Dev nD) (i : grid0.Coords) (arg2 : Memref sig .tc .vmem S64x512 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S8x512 .f32) (harg6 : arg6.IsWhole) (arg7 : Memref sig .tc .vmem S64x64 .f32) (harg7 : arg7.IsWhole) (arg8 : Memref sig .tc .vmem S64x512 .bf16) (harg8 : arg8.IsWhole) (arg9 : Memref sig .tc .vmem S4x128x128 .f32) (harg9 : arg9.IsWhole) (hc0 : cond0_0 i)
    (x0 : Vec F S64x512 .f32) (x1 : Vec F S64x512 .f32) (x2 : Vec F S64x512 .f32) (x3 : Vec F S64x512 .f32) (x4 : Vec F S8x512 .f32) (x5 : Vec F S64x64 .f32) (y : S4x128x128.Idx) :
    sout0_A_0 c i arg2 harg2 arg3 harg3 arg4 harg4 arg5 harg5 arg6 harg6 arg7 harg7 arg8 harg8 arg9 harg9 hc0 x0 x1 x2 x3 x4 x5 y = pointNext x1 x2 x4 x5 k0_pay2 (y 0) (within y) := by
  frame_out
  simp (disch := decide) only [↓View.readCov_skip, ↓View.readCov_fill]
  refine View.canon_append_of_piecesOf (fun y => pointNext x1 x2 x4 x5 k0_pay2 (y 0) (within y)) [_] [_, _, _, _]
    ⟨fun z => ?_, fun z => ?_, fun z => ?_, fun z => ?_, trivial⟩ y ?_
  · exact piece_eq _ z 3 (by simp) (by simp) (by simp) (pointNext x1 x2 x4 x5 k0_pay2 3) (by sl_kernel_rfl)
  · exact piece_eq _ z 2 (by simp) (by simp) (by simp) (pointNext x1 x2 x4 x5 k0_pay2 2) (by sl_kernel_rfl)
  · exact piece_eq _ z 1 (by simp) (by simp) (by simp) (pointNext x1 x2 x4 x5 k0_pay2 1) (by sl_kernel_rfl)
  · exact piece_eq _ z 0 (by simp) (by simp) (by simp) (pointNext x1 x2 x4 x5 k0_pay2 0) (by sl_kernel_rfl)
  · have l0 : (y 0 : ℕ) < 4 := (y 0).isLt
    have l1 : (y 1 : ℕ) < 128 := (y 1).isLt
    have l2 : (y 2 : ℕ) < 128 := (y 2).isLt
    have hc : (y 0 : ℕ) = 3 ∨ (y 0 : ℕ) = 2 ∨ (y 0 : ℕ) = 1 ∨ (y 0 : ℕ) = 0 := by omega
    rcases hc with h | h | h | h
    · refine ⟨_, List.mem_cons_self, ?_⟩
      refine (Rect.mem_set_unit (inb := inb_S4x128x128_S1x128x128_3_0_0)).mpr ?_
      intro a
      match a with
      | 0 => simp; omega
      | 1 => simp; omega
      | 2 => simp; omega
    · refine ⟨_, List.mem_cons_of_mem _ List.mem_cons_self, ?_⟩
      refine (Rect.mem_set_unit (inb := inb_S4x128x128_S1x128x128_2_0_0)).mpr ?_
      intro a
      match a with
      | 0 => simp; omega
      | 1 => simp; omega
      | 2 => simp; omega
    · refine ⟨_, List.mem_cons_of_mem _ (List.mem_cons_of_mem _ List.mem_cons_self), ?_⟩
      refine (Rect.mem_set_unit (inb := inb_S4x128x128_S1x128x128_1_0_0)).mpr ?_
      intro a
      match a with
      | 0 => simp; omega
      | 1 => simp; omega
      | 2 => simp; omega
    · refine ⟨_, List.mem_cons_of_mem _ (List.mem_cons_of_mem _ (List.mem_cons_of_mem _ List.mem_cons_self)), ?_⟩
      refine (Rect.mem_set_unit (inb := inb_S4x128x128_S1x128x128_0_0_0)).mpr ?_
      intro a
      match a with
      | 0 => simp; omega
      | 1 => simp; omega
      | 2 => simp; omega

end Cert.KernelIdeal.Body

end
-- ==== Proof.HgrnMath.lean ====
/- The gated linear recurrence over the extended reals, one chunk of 64 rows of one head at a time: what a chunk outputs, what it
   hands to the next, and the sums that the blocks of 16 rows regroup. -/
module

public import Idealize.ShloMosaic.PureOps.Ideal
public import Idealize.ShloMosaic.Lib.Pointwise

@[expose] public section

noncomputable section

open Idealize.ShloMosaic

namespace Cert.Hgrn

/-- A chunk's rows of one head: 64 rows of 128 numbers. -/
abbrev Rows := Fin 64 → Fin 128 → EReal
/-- A head's state: keys by values. -/
abbrev Carry := Fin 128 → Fin 128 → EReal

/-- What row `s` weighs in row `t` at key `d`: the decay from `s` to `t`, and nothing if `s` comes after `t`. -/
def decay (b : Rows) (t s : Fin 64) (d : Fin 128) : EReal := Ideal.exp (if s.val ≤ t.val then b t d - b s d else ⊥)

/-- The score of row `s` in row `t`. -/
def score (q k b : Rows) (t s : Fin 64) : EReal := ∑ d, q t d * k s d * decay b t s d

/-- A chunk's output: the carried state seen from row `t`, plus the rows up to `t` by their scores. -/
def mix (q k v b : Rows) (S : Carry) (t : Fin 64) (e : Fin 128) : EReal :=
  (∑ d, q t d * Ideal.exp (b t d) * S d e) + ∑ s, score q k b t s * v s e

/-- The state after a chunk. -/
def carry (k v b : Rows) (S : Carry) (d e : Fin 128) : EReal :=
  Ideal.exp (b 63 d) * S d e + ∑ s, k s d * Ideal.exp (b 63 d - b s d) * v s e

/-- The states before each chunk, from zero. -/
def states (k v b : ℕ → Rows) : ℕ → Carry
  | 0 => fun _ _ => 0
  | n + 1 => carry (k n) (v n) (b n) (states k v b n)

/-- The cumulated logarithms of a chunk: at most zero and falling with the row. Minus infinity is allowed. -/
def Falls (b : Rows) : Prop := ∀ (s t : Fin 64) (d : Fin 128), s.val ≤ t.val → b t d ≤ b s d ∧ b s d ≤ 0

/-- Decays compose: from `c` to `b`, then from `b` to `a`, the three falling from below infinity. -/
theorem exp_mul_exp {a b c : EReal} (hab : a ≤ b) (hbc : b ≤ c) (hc : c ≤ 0) :
    Ideal.exp (a - b) * Ideal.exp (b - c) = Ideal.exp (a - c) := by
  induction a with
  | bot => rw [EReal.bot_sub, EReal.bot_sub, Ideal.exp_bot, zero_mul]
  | top => exact absurd (hab.trans (hbc.trans hc)) (by simp)
  | coe a =>
    induction b with
    | bot => exact absurd hab (by simp)
    | top => exact absurd (hbc.trans hc) (by simp)
    | coe b =>
      induction c with
      | bot => exact absurd hbc (by simp)
      | top => exact absurd hc (by simp)
      | coe c =>
        rw [← EReal.coe_sub, ← EReal.coe_sub, ← EReal.coe_sub, Ideal.exp_coe, Ideal.exp_coe, Ideal.exp_coe, ← EReal.coe_mul,
          ← Real.exp_add]
        congr 2
        ring

/-- A row before `t` scores by its own decay. -/
theorem decay_of_le (b : Rows) {t s : Fin 64} (h : s.val ≤ t.val) (d : Fin 128) : decay b t s d = Ideal.exp (b t d - b s d) := by
  rw [decay, if_pos h]

/-- A row after `t` scores nothing. -/
theorem score_of_lt (q k b : Rows) {t s : Fin 64} (h : t.val < s.val) : score q k b t s = 0 := by
  refine Finset.sum_eq_zero fun d _ => ?_
  rw [decay, if_neg (Nat.not_le.mpr h), Ideal.exp_bot, mul_zero]

/-- Decaying the query from a row in between, and the key to it, gives the score. -/
theorem score_via (q k b : Rows) (hb : Falls b) {t s : Fin 64} (u : Fin 64) (hs : s.val ≤ u.val) (ht : u.val ≤ t.val) :
    ∑ d, q t d * Ideal.exp (b t d - b u d) * (k s d * Ideal.exp (b u d - b s d)) = score q k b t s := by
  refine Finset.sum_congr rfl fun d _ => ?_
  rw [decay_of_le b (hs.trans ht), mul_mul_mul_comm, exp_mul_exp (hb u t d ht).1 (hb s u d hs).1 (hb s u d hs).2]

/-- A sum over 64 rows whose terms vanish from row `p + 16` on: the 16 rows from `p`, then the rows before `p`. -/
theorem sum_block (f : Fin 64 → EReal) (p : ℕ) (hp : p + 16 ≤ 64) (h0 : ∀ s : Fin 64, p + 16 ≤ s.val → f s = 0) :
    ∑ s, f s = (∑ c : Fin 16, f ⟨p + c.val, by omega⟩) + ∑ s : Fin p, f ⟨s.val, by omega⟩ := by
  obtain ⟨r, hr⟩ := Nat.exists_eq_add_of_le hp
  have e : ∑ s, f s = ∑ s : Fin (p + 16 + r), f ⟨s.val, by omega⟩ :=
    Fintype.sum_equiv (finCongr hr) _ _ fun _ => rfl
  have hz : (∑ s : Fin r, f ⟨p + 16 + s.val, by omega⟩) = 0 := Finset.sum_eq_zero fun s _ => h0 _ (Nat.le_add_right _ _)
  rw [e, Fin.sum_univ_add, Fin.sum_univ_add]
  simp only [Fin.val_castAdd, Fin.val_natAdd]
  rw [hz, add_zero, add_comm]

/-- The sum of the terms at rows up to `t`, as a window that ends at `t`. -/
theorem sum_window (f : ℕ → EReal) (t : Fin 64) :
    (∑ w : Fin 64, if 63 ≤ t.val + w.val then f (t.val + w.val - 63) else 0) = ∑ s : Fin 64, if s.val ≤ t.val then f s.val else 0 := by
  rw [Fin.sum_univ_eq_sum_range (fun w => if 63 ≤ t.val + w then f (t.val + w - 63) else 0) 64,
    Fin.sum_univ_eq_sum_range (fun s => if s ≤ t.val then f s else 0) 64, ← Finset.sum_filter, ← Finset.sum_filter]
  refine Finset.sum_bij' (fun w _ => t.val + w - 63) (fun s _ => s + 63 - t.val) ?_ ?_ ?_ ?_ ?_
  · intro w hw
    simp only [Finset.mem_filter, Finset.mem_range] at hw ⊢
    omega
  · intro s hs
    simp only [Finset.mem_filter, Finset.mem_range] at hs ⊢
    omega
  · intro w hw
    simp only [Finset.mem_filter, Finset.mem_range] at hw
    omega
  · intro s hs
    simp only [Finset.mem_filter, Finset.mem_range] at hs
    omega
  · intro w hw
    rfl

end Cert.Hgrn

end
-- ==== Proof.HgrnHead.lean ====
/- One head of one chunk in the recurrence's kernel, entry by entry: the four blocks of 16 rows make the chunk's output, and the
   state update makes the chunk's carry. -/
module

public import proofs.«01_k».proof.Proof.HgrnBody
public import proofs.«01_k».proof.Proof.HgrnMath
public import Idealize.ShloMosaic.Lib.WordCmp

@[expose] public section

set_option maxRecDepth 65536

noncomputable section

open Idealize.ShloMosaic Idealize.ShloMosaic.TcCoe Idealize.ShloMosaic.Tactic Idealize.SL.Sem
open Cert.Hgrn (Falls mix carry score decay)

namespace Cert.KernelIdeal.Body
open Cert.KernelIdeal Cert.KernelIdeal.Gen

/-- A chunk's rows, as a function of row and column. -/
abbrev at2 (x : FVec Ideal S64x128 .f32) : Hgrn.Rows := fun t d => x (ix2 t d)
/-- A head's stored state, which lies values by keys, as keys by values. -/
abbrev keyed (st : FVec Ideal S1x128x128 .f32) : Hgrn.Carry := fun d e => st (ix3 0 e d)

/-- The word of minus infinity. -/
theorem neg_inf : Ideal.ofBits .f32 0xFF800000#32 = ⊥ := by simp [Ideal.ofBits, Ideal.ieee]

/-- Comparing row numbers selects as comparing numbers does. -/
theorem select_sge {a b : ℕ} (ha : a < 64) (hb : b < 64) (x y : EReal) :
    Scalar.select (IntOp.cmpi .sge (BitVec.ofNat 32 a) (BitVec.ofNat 32 b)) x y = if b ≤ a then x else y := by
  rw [WordCmp.cmpi_sge_ofNat (by omega) (by omega)]
  by_cases h : b ≤ a <;> simp [h, Scalar.select]

/-- Testing a column number selects as testing a number does. -/
theorem select_eq {a b : ℕ} (ha : a < 64) (hb : b < 64) (x y : EReal) :
    Scalar.select (IntOp.cmpi .eq (BitVec.ofNat 32 a) (BitVec.ofNat 32 b)) x y = if a = b then x else y := by
  rw [WordCmp.cmpi_eq_ofNat (by omega) (by omega)]
  by_cases h : a = b <;> simp [h, Scalar.select]

/-- A column of a diagonal block of scores. -/
theorem scoreCol_at (s : Fin 16) (b q k : FVec Ideal S16x128 .f32) (r : Fin 16) :
    scoreCol s b q k (ix2 r 0) = ∑ d : Fin 128, q (ix2 r d) * k (ix2 s d) *
      Ideal.exp (if s.val ≤ r.val then b (ix2 r d) - b (ix2 s d) else ⊥) := by
  pointwise [scoreCol]
  refine Finset.sum_congr rfl fun d _ => ?_
  rw [select_sge (by omega) (by omega), neg_inf]

/-- A diagonal block of scores after its first `n` columns: these columns, and zero in the others. -/
theorem scores_at (b q k : FVec Ideal S16x128 .f32) (r c : Fin 16) : (n : ℕ) → (h : n ≤ 16) →
    scores b q k n h (ix2 r c) = if c.val < n then scoreCol c b q k (ix2 r 0) else 0
  | 0, h => by
    unfold scores
    pointwise
    rw [if_neg (Nat.not_lt_zero _)]
  | n + 1, h => by
    have ih := scores_at b q k r c n (Nat.le_of_succ_le h)
    unfold scores
    pointwise
    rw [select_eq (by omega) (by omega), ih]
    by_cases e : c.val = n
    · rw [if_pos e, if_pos (by omega)]
      have : (⟨n, h⟩ : Fin 16) = c := Fin.ext e.symm
      rw [this]
    · rw [if_neg e]
      by_cases l : c.val < n
      · rw [if_pos l, if_pos (by omega)]
      · rw [if_neg l, if_neg (by omega)]

/-- A diagonal block of scores, of block `i`'s rows. -/
theorem block_scores (i : Fin 4) (b q k : FVec Ideal S64x128 .f32) (r c : Fin 16) :
    scores (rows i b) (rows i q) (rows i k) 16 (Nat.le_refl 16) (ix2 r c) =
      score (at2 q) (at2 k) (at2 b) ⟨16 * i.val + r.val, by omega⟩ ⟨16 * i.val + c.val, by omega⟩ := by
  rw [scores_at, if_pos c.isLt, scoreCol_at]
  unfold score decay
  refine Finset.sum_congr rfl fun d _ => ?_
  pointwise [rows]
  simp only [Nat.add_le_add_iff_left]

/-- A block's output from the carried state and its own rows. -/
theorem own_at (i : Fin 4) (b q k : FVec Ideal S64x128 .f32) (v : FVec Ideal S64x128 .bf16) (it : FVec Ideal S64x128 .f32)
    (r : Fin 16) (e : Fin 128) :
    ownPart i b q k v it (ix2 r e) = it (ix2 ⟨16 * i.val + r.val, by omega⟩ e) +
      ∑ c : Fin 16, score (at2 q) (at2 k) (at2 b) ⟨16 * i.val + r.val, by omega⟩ ⟨16 * i.val + c.val, by omega⟩ *
        v (ix2 ⟨16 * i.val + c.val, by omega⟩ e) := by
  pointwise [ownPart]
  simp only [block_scores]

/-- The output that the carried state gives. -/
theorem inter_at (qi : FVec Ideal S64x128 .f32) (st : FVec Ideal S1x128x128 .f32) (t : Fin 64) (e : Fin 128) :
    interPart qi st (ix2 t e) = ∑ d : Fin 128, qi (ix2 t d) * st (ix3 0 e d) := by
  pointwise [interPart]

variable (b q k : FVec Ideal S64x128 .f32) (v : FVec Ideal S64x128 .bf16) (hb : Falls (at2 b))
include hb

/-- The second block's output from the 16 rows before it. -/
theorem prior_at_one (r : Fin 16) (e : Fin 128) :
    priorPart 1 dot_S16x128_S16x128_S16x16_1_1_0_0_n_n dot_S16x16_S16x128_S16x128_1_0_0_1_n_n
        slices_S64x128_o0_0_S16x128 broadcasts_S1x128_S16x128 b q k v
        (extractStridedSlice S1x128 ![15, 0] b slices_S64x128_o15_0_S1x128) (ix2 r e) =
      ∑ s : Fin 16, score (at2 q) (at2 k) (at2 b) ⟨16 + r.val, by omega⟩ ⟨s.val, by omega⟩ * v (ix2 ⟨s.val, by omega⟩ e) := by
  pointwise [priorPart, qHat, rows]
  refine Finset.sum_congr rfl fun s _ => ?_
  congr 1
  exact Hgrn.score_via (at2 q) (at2 k) (at2 b) hb (t := ⟨16 + r.val, by omega⟩) (s := ⟨s.val, by omega⟩) 15
    (by change s.val ≤ 15; omega) (by change 15 ≤ 16 + r.val; omega)

/-- The third block's output from the 32 rows before it. -/
theorem prior_at_two (r : Fin 16) (e : Fin 128) :
    priorPart 2 dot_S16x128_S32x128_S16x32_1_1_0_0_n_n dot_S16x32_S32x128_S16x128_1_0_0_1_n_n
        slices_S64x128_o0_0_S32x128 broadcasts_S1x128_S32x128 b q k v
        (extractStridedSlice S1x128 ![31, 0] b slices_S64x128_o31_0_S1x128) (ix2 r e) =
      ∑ s : Fin 32, score (at2 q) (at2 k) (at2 b) ⟨32 + r.val, by omega⟩ ⟨s.val, by omega⟩ * v (ix2 ⟨s.val, by omega⟩ e) := by
  pointwise [priorPart, qHat, rows]
  refine Finset.sum_congr rfl fun s _ => ?_
  congr 1
  exact Hgrn.score_via (at2 q) (at2 k) (at2 b) hb (t := ⟨32 + r.val, by omega⟩) (s := ⟨s.val, by omega⟩) 31
    (by change s.val ≤ 31; omega) (by change 31 ≤ 32 + r.val; omega)

/-- The fourth block's output from the 48 rows before it. -/
theorem prior_at_three (r : Fin 16) (e : Fin 128) :
    priorPart 3 dot_S16x128_S48x128_S16x48_1_1_0_0_n_n dot_S16x48_S48x128_S16x128_1_0_0_1_n_n
        slices_S64x128_o0_0_S48x128 broadcasts_S1x128_S48x128 b q k v
        (extractStridedSlice S1x128 ![47, 0] b slices_S64x128_o47_0_S1x128) (ix2 r e) =
      ∑ s : Fin 48, score (at2 q) (at2 k) (at2 b) ⟨48 + r.val, by omega⟩ ⟨s.val, by omega⟩ * v (ix2 ⟨s.val, by omega⟩ e) := by
  pointwise [priorPart, qHat, rows]
  refine Finset.sum_congr rfl fun s _ => ?_
  congr 1
  exact Hgrn.score_via (at2 q) (at2 k) (at2 b) hb (t := ⟨48 + r.val, by omega⟩) (s := ⟨s.val, by omega⟩) 47
    (by change s.val ≤ 47; omega) (by change 47 ≤ 48 + r.val; omega)

omit hb in
/-- A block's rows weigh every row of the chunk: the block's own and those before it. -/
theorem regroup (v : Hgrn.Rows) (I : EReal) (p : ℕ) (hp : p + 16 ≤ 64) (r : Fin 16) (e : Fin 128) :
    I + (∑ c : Fin 16, score (at2 q) (at2 k) (at2 b) ⟨p + r.val, by omega⟩ ⟨p + c.val, by omega⟩ * v ⟨p + c.val, by omega⟩ e) +
      (∑ s : Fin p, score (at2 q) (at2 k) (at2 b) ⟨p + r.val, by omega⟩ ⟨s.val, by omega⟩ * v ⟨s.val, by omega⟩ e) =
    I + ∑ s, score (at2 q) (at2 k) (at2 b) ⟨p + r.val, by omega⟩ s * v s e := by
  rw [add_assoc, ← Hgrn.sum_block (fun s => score (at2 q) (at2 k) (at2 b) ⟨p + r.val, by omega⟩ s * v s e) p hp]
  intro s hs
  rw [Hgrn.score_of_lt _ _ _ (by change p + r.val < s.val; omega), zero_mul]

omit hb in
/-- The first block: the carried state's part and every row's. -/
theorem block_zero (w it : FVec Ideal S64x128 .f32) (t : Fin 64) (r : Fin 16) (ht : t.val = 0 + r.val) (e : Fin 128) :
    ownPart 0 b q k (truncf .bf16 w bitsLt_bf16_f32) it (ix2 r e) =
      it (ix2 t e) + ∑ s, score (at2 q) (at2 k) (at2 b) t s * at2 w s e := by
  have hs := regroup b q k (at2 w) (it (ix2 ⟨16 * 0 + r.val, by omega⟩ e)) 0 (by omega) r e
  rw [Fin.sum_univ_zero, add_zero] at hs
  rw [own_at]
  have ht' : t = ⟨0 + r.val, by omega⟩ := Fin.ext (by omega)
  have e0 : (⟨16 * ((0 : Fin 4) : ℕ) + r.val, by omega⟩ : Fin 64) = t := Fin.ext (by rw [ht]; rfl)
  have e1 (c : Fin 16) : (⟨16 * ((0 : Fin 4) : ℕ) + c.val, by omega⟩ : Fin 64) = ⟨0 + c.val, by omega⟩ := Fin.ext (by simp)
  rw [← ht'] at hs
  simp only [e0, e1]
  exact hs

/-- The second block: the carried state's part and every row's. -/
theorem block_one (w it : FVec Ideal S64x128 .f32) (t : Fin 64) (r : Fin 16) (ht : t.val = 16 + r.val) (e : Fin 128) :
    ownPart 1 b q k (truncf .bf16 w bitsLt_bf16_f32) it (ix2 r e) +
        priorPart 1 dot_S16x128_S16x128_S16x16_1_1_0_0_n_n dot_S16x16_S16x128_S16x128_1_0_0_1_n_n
          slices_S64x128_o0_0_S16x128 broadcasts_S1x128_S16x128 b q k (truncf .bf16 w bitsLt_bf16_f32)
          (extractStridedSlice S1x128 ![15, 0] b slices_S64x128_o15_0_S1x128) (ix2 r e) =
      it (ix2 t e) + ∑ s, score (at2 q) (at2 k) (at2 b) t s * at2 w s e := by
  have hr : 16 + r.val < 64 := by clear ht; omega
  obtain rfl : t = ⟨16 + r.val, hr⟩ := Fin.ext ht
  rw [own_at, prior_at_one b q k _ hb]
  exact regroup b q k (at2 w) (it (ix2 ⟨16 + r.val, by omega⟩ e)) 16 (by omega) r e

/-- The third block: the carried state's part and every row's. -/
theorem block_two (w it : FVec Ideal S64x128 .f32) (t : Fin 64) (r : Fin 16) (ht : t.val = 32 + r.val) (e : Fin 128) :
    ownPart 2 b q k (truncf .bf16 w bitsLt_bf16_f32) it (ix2 r e) +
        priorPart 2 dot_S16x128_S32x128_S16x32_1_1_0_0_n_n dot_S16x32_S32x128_S16x128_1_0_0_1_n_n
          slices_S64x128_o0_0_S32x128 broadcasts_S1x128_S32x128 b q k (truncf .bf16 w bitsLt_bf16_f32)
          (extractStridedSlice S1x128 ![31, 0] b slices_S64x128_o31_0_S1x128) (ix2 r e) =
      it (ix2 t e) + ∑ s, score (at2 q) (at2 k) (at2 b) t s * at2 w s e := by
  have hr : 32 + r.val < 64 := by clear ht; omega
  obtain rfl : t = ⟨32 + r.val, hr⟩ := Fin.ext ht
  rw [own_at, prior_at_two b q k _ hb]
  exact regroup b q k (at2 w) (it (ix2 ⟨32 + r.val, by omega⟩ e)) 32 (by omega) r e

/-- The fourth block: the carried state's part and every row's. -/
theorem block_three (w it : FVec Ideal S64x128 .f32) (t : Fin 64) (r : Fin 16) (ht : t.val = 48 + r.val) (e : Fin 128) :
    ownPart 3 b q k (truncf .bf16 w bitsLt_bf16_f32) it (ix2 r e) +
        priorPart 3 dot_S16x128_S48x128_S16x48_1_1_0_0_n_n dot_S16x48_S48x128_S16x128_1_0_0_1_n_n
          slices_S64x128_o0_0_S48x128 broadcasts_S1x128_S48x128 b q k (truncf .bf16 w bitsLt_bf16_f32)
          (extractStridedSlice S1x128 ![47, 0] b slices_S64x128_o47_0_S1x128) (ix2 r e) =
      it (ix2 t e) + ∑ s, score (at2 q) (at2 k) (at2 b) t s * at2 w s e := by
  have hr : 48 + r.val < 64 := by clear ht; omega
  obtain rfl : t = ⟨48 + r.val, hr⟩ := Fin.ext ht
  rw [own_at, prior_at_three b q k _ hb]
  exact regroup b q k (at2 w) (it (ix2 ⟨48 + r.val, by omega⟩ e)) 48 (by omega) r e

/-- A head's output before the norm is the chunk's output. -/
theorem headOut_at (qi w : FVec Ideal S64x128 .f32) (st : FVec Ideal S1x128x128 .f32)
    (hq : ∀ t d, qi (ix2 t d) = q (ix2 t d) * Ideal.exp (b (ix2 t d))) (t : Fin 64) (e : Fin 128) :
    headOut b q k qi w st (ix2 t e) = mix (at2 q) (at2 k) (at2 w) (at2 b) (keyed st) t e := by
  have hI (t : Fin 64) : interPart qi st (ix2 t e) = ∑ d, at2 q t d * Ideal.exp (at2 b t d) * keyed st d e := by
    rw [inter_at]
    exact Finset.sum_congr rfl fun d _ => by rw [hq]
  unfold mix
  rw [← hI]
  pointwise [headOut]
  by_cases h0 : t.val < 16
  · rw [dif_pos h0]
    exact block_zero b q k w _ t ⟨t.val, h0⟩ (Nat.zero_add _).symm e
  rw [dif_neg h0]
  by_cases h1 : t.val - 16 < 16
  · rw [dif_pos h1]
    exact block_one b q k hb w _ t ⟨t.val - 16, h1⟩ (by change t.val = 16 + (t.val - 16); omega) e
  rw [dif_neg h1]
  by_cases h2 : t.val - 16 - 16 < 16
  · rw [dif_pos h2]
    exact block_two b q k hb w _ t ⟨t.val - 16 - 16, h2⟩ (by change t.val = 32 + (t.val - 16 - 16); omega) e
  rw [dif_neg h2]
  exact block_three b q k hb w _ t ⟨t.val - 16 - 16 - 16, by omega⟩ (by change t.val = 48 + (t.val - 16 - 16 - 16); omega) e

omit hb in
/-- A head's state after the chunk is the chunk's carry. -/
theorem headState_at (bl : FVec Ideal S1x128 .f32) (kc w : FVec Ideal S64x128 .f32) (st : FVec Ideal S1x128x128 .f32)
    (hl : ∀ d, bl (ix2 0 d) = b (ix2 63 d))
    (hk : ∀ s d, kc (ix2 s d) = k (ix2 s d) * Ideal.exp (b (ix2 63 d) - b (ix2 s d))) (d e : Fin 128) :
    headState bl kc w st (ix3 0 e d) = carry (at2 k) (at2 w) (at2 b) (keyed st) d e := by
  pointwise [headState]
  unfold carry
  rw [hl]
  congr 1
  exact Finset.sum_congr rfl fun s _ => by rw [hk, mul_comm]

end Cert.KernelIdeal.Body

end
-- ==== Proof.HgrnGate.lean ====
/- The forget gate's scalar identities: the logarithm of the gate in the kernel's form and in the reference's is the logarithm of
   one real number from zero to one, and the key is one minus that number. -/
module

public import proofs.«01_k».proof.Proof.HgrnMath

@[expose] public section

noncomputable section

open Idealize.ShloMosaic

namespace Cert.Hgrn

/-- The logarithm of the scaled sigmoid, from the logarithm `l` of the scale. -/
def candidate (l x : EReal) : EReal := l + min x 0 - Ideal.log1p (Ideal.exp (0 - max x (-x)))

/-- The logarithm of the forget gate, from the logarithms of the lower bound and of one minus it. -/
def logGate (a l x : EReal) : EReal :=
  max a (candidate l x) + Ideal.log1p (Ideal.exp (0 - max (a - candidate l x) (-(a - candidate l x))))

/-- The sigmoid, as a real number. -/
def sigm : EReal → ℝ
  | ⊥ => 0
  | ⊤ => 1
  | (x : ℝ) => (1 + Real.exp (-x))⁻¹

/-- The sigmoid of a real. -/
theorem sigm_coe (x : ℝ) : sigm (x : EReal) = (1 + Real.exp (-x))⁻¹ := rfl

/-- The sigmoid at minus infinity. -/
theorem sigm_bot : sigm ⊥ = 0 := rfl

/-- The sigmoid at infinity. -/
theorem sigm_top : sigm ⊤ = 1 := rfl

/-- The sigmoid is at least zero and at most one. -/
theorem sigm_mem (x : EReal) : 0 ≤ sigm x ∧ sigm x ≤ 1 := by
  induction x with
  | bot => exact ⟨le_rfl, zero_le_one⟩
  | top => exact ⟨zero_le_one, le_rfl⟩
  | coe x =>
    have : 0 < Real.exp (-x) := Real.exp_pos _
    rw [sigm_coe]
    exact ⟨by positivity, inv_le_one_of_one_le₀ (by linarith)⟩

/-- The forget gate: the lower bound `r`, and the sigmoid scaled to what is left. -/
def gate (r : ℝ) (x : EReal) : ℝ := r + (1 - r) * sigm x

/-- The gate is at most one. -/
theorem gate_le {r : ℝ} (h1 : r ≤ 1) (x : EReal) : gate r x ≤ 1 := by
  have := mul_le_of_le_one_right (sub_nonneg.2 h1) (sigm_mem x).2
  unfold gate
  linarith

/-- The gate is at least zero. -/
theorem gate_nonneg {r : ℝ} (h0 : 0 ≤ r) (h1 : r ≤ 1) (x : EReal) : 0 ≤ gate r x :=
  add_nonneg h0 (mul_nonneg (sub_nonneg.2 h1) (sigm_mem x).1)

/-- The logarithm of a number up to one is at most zero. -/
theorem log_nonpos {y : ℝ} (h : y ≤ 1) : Ideal.log (y : EReal) ≤ 0 := by
  rw [Ideal.log_coe]
  split
  · exact bot_le
  · exact_mod_cast Real.log_nonpos (by linarith) h

/-- The exponential undoes the logarithm from zero on. -/
theorem exp_log {y : ℝ} (h : 0 ≤ y) : Ideal.exp (Ideal.log (y : EReal)) = y := by
  rw [Ideal.log_coe]
  split
  · next h' => rw [Ideal.exp_bot, le_antisymm h' h, EReal.coe_zero]
  · next h' => rw [Ideal.exp_coe, Real.exp_log (not_le.mp h')]

/-- A positive real's `log (1 + ·)`. -/
theorem log1p_coe {y : ℝ} (h : 0 < 1 + y) : Ideal.log1p (y : EReal) = (Real.log (1 + y) : EReal) := by
  rw [Ideal.log1p, ← EReal.coe_one, ← EReal.coe_add, Ideal.log_coe, if_neg (not_le.mpr h)]

/-- `log 1` is zero. -/
theorem log1p_zero : Ideal.log1p 0 = 0 := by
  rw [← EReal.coe_zero, log1p_coe (by norm_num), add_zero, Real.log_one]

/-- `log (1 + exp ·)` of a real. -/
theorem log1p_exp (y : ℝ) : Ideal.log1p (Ideal.exp (y : EReal)) = (Real.log (1 + Real.exp y) : EReal) := by
  rw [Ideal.exp_coe, log1p_coe (by positivity)]

/-- The larger of a real and its opposite. -/
theorem max_neg (x : ℝ) : max (x : EReal) (-(x : EReal)) = ((|x| : ℝ) : EReal) := by
  rw [← EReal.coe_neg, abs_eq_max_neg]
  exact (EReal.coe_strictMono.monotone.map_max).symm

/-- The logarithm of the sigmoid. -/
theorem log_sigm (x : EReal) : min x 0 - Ideal.log1p (Ideal.exp (0 - max x (-x))) = Ideal.log (sigm x : EReal) := by
  induction x with
  | bot => rw [sigm_bot, min_eq_left bot_le, EReal.bot_sub, Ideal.log_coe, if_pos le_rfl]
  | top =>
    rw [EReal.neg_top, max_eq_left bot_le, zero_sub, EReal.neg_top, Ideal.exp_bot, log1p_zero, min_eq_right le_top, sub_zero,
      sigm_top, Ideal.log_coe, if_neg (by norm_num), Real.log_one, EReal.coe_zero]
  | coe x =>
    have hm : min (x : EReal) 0 = ((min x 0 : ℝ) : EReal) := (EReal.coe_strictMono.monotone.map_min (a := x) (b := 0)).symm
    have hp : 0 < 1 + Real.exp (-x) := by positivity
    rw [max_neg, zero_sub, ← EReal.coe_neg, log1p_exp, hm, ← EReal.coe_sub, sigm_coe, Ideal.log_coe,
      if_neg (not_le.mpr (inv_pos.2 hp)), Real.log_inv]
    congr 1
    rcases le_total 0 x with h | h
    · rw [min_eq_right h, abs_of_nonneg h, zero_sub]
    · have e : 1 + Real.exp (-x) = Real.exp (-x) * (1 + Real.exp x) := by
        rw [mul_add, mul_one, ← Real.exp_add, neg_add_cancel, Real.exp_zero, add_comm]
      rw [min_eq_left h, abs_of_nonpos h, neg_neg, e, Real.log_mul (Real.exp_pos _).ne' (by positivity), Real.log_exp]
      ring

/-- A product's logarithm, of numbers from zero on. -/
theorem log_mul {p q : ℝ} (hp : 0 ≤ p) (hq : 0 ≤ q) : Ideal.log (p : EReal) + Ideal.log (q : EReal) = Ideal.log ((p * q : ℝ) : EReal) := by
  have z : Ideal.log ((0 : ℝ) : EReal) = ⊥ := by rw [Ideal.log_coe, if_pos le_rfl]
  rcases hp.eq_or_lt with rfl | hp
  · rw [zero_mul, z, EReal.bot_add]
  rcases hq.eq_or_lt with rfl | hq
  · rw [mul_zero, z, EReal.add_bot]
  rw [Ideal.log_coe, Ideal.log_coe, Ideal.log_coe, if_neg (not_le.mpr hp), if_neg (not_le.mpr hq), if_neg (not_le.mpr (mul_pos hp hq)),
    Real.log_mul hp.ne' hq.ne', EReal.coe_add]

/-- The logarithm of a sum of exponentials, of real logarithms. -/
theorem log_add_exp (a c : ℝ) : max a c + Real.log (1 + Real.exp (-|a - c|)) = Real.log (Real.exp a + Real.exp c) := by
  rcases le_total a c with h | h
  · rw [max_eq_right h, abs_of_nonpos (by linarith), neg_neg]
    have e : Real.exp a + Real.exp c = Real.exp c * (1 + Real.exp (a - c)) := by
      rw [mul_add, ← Real.exp_add, mul_one, add_sub_cancel, add_comm]
    rw [e, Real.log_mul (Real.exp_pos c).ne' (by positivity), Real.log_exp]
  · rw [max_eq_left h, abs_of_nonneg (by linarith), neg_sub]
    have e : Real.exp a + Real.exp c = Real.exp a * (1 + Real.exp (c - a)) := by
      rw [mul_add, ← Real.exp_add, mul_one, add_sub_cancel]
    rw [e, Real.log_mul (Real.exp_pos a).ne' (by positivity), Real.log_exp]

/-- The logarithm of a sum, from the two logarithms, of numbers from zero on. -/
theorem log_add {p q : ℝ} (hp : 0 ≤ p) (hq : 0 ≤ q) :
    max (Ideal.log (p : EReal)) (Ideal.log (q : EReal)) + Ideal.log1p (Ideal.exp (0 -
      max (Ideal.log (p : EReal) - Ideal.log (q : EReal)) (-(Ideal.log (p : EReal) - Ideal.log (q : EReal))))) =
    Ideal.log ((p + q : ℝ) : EReal) := by
  have z : Ideal.log ((0 : ℝ) : EReal) = ⊥ := by rw [Ideal.log_coe, if_pos le_rfl]
  rcases hp.eq_or_lt with rfl | hp
  · rw [z, EReal.bot_sub, EReal.neg_bot, max_eq_right bot_le, max_eq_right bot_le, zero_sub, EReal.neg_top, Ideal.exp_bot, log1p_zero,
      add_zero, zero_add]
  have ep : Ideal.log (p : EReal) = (Real.log p : EReal) := by rw [Ideal.log_coe, if_neg (not_le.mpr hp)]
  rcases hq.eq_or_lt with rfl | hq
  · rw [z, ep, EReal.coe_sub_bot, EReal.neg_top, max_eq_left bot_le, max_eq_left bot_le, zero_sub, EReal.neg_top, Ideal.exp_bot,
      log1p_zero, add_zero, add_zero, ep]
  have eq : Ideal.log (q : EReal) = (Real.log q : EReal) := by rw [Ideal.log_coe, if_neg (not_le.mpr hq)]
  rw [ep, eq, ← EReal.coe_sub, max_neg, zero_sub, ← EReal.coe_neg, log1p_exp,
    show max (Real.log p : EReal) (Real.log q : EReal) = ((max (Real.log p) (Real.log q) : ℝ) : EReal) from
      (EReal.coe_strictMono.monotone.map_max).symm, ← EReal.coe_add, log_add_exp, Real.exp_log hp, Real.exp_log hq, Ideal.log_coe,
    if_neg (not_le.mpr (add_pos hp hq))]

/-- The candidate is the scaled sigmoid's logarithm. -/
theorem candidate_eq {r : ℝ} (h1 : r ≤ 1) (x : EReal) :
    candidate (Ideal.log1p (-(r : EReal))) x = Ideal.log (((1 - r) * sigm x : ℝ) : EReal) := by
  rw [candidate, sub_eq_add_neg, add_assoc, ← sub_eq_add_neg, log_sigm, Ideal.log1p, ← sub_eq_add_neg, ← EReal.coe_one,
    ← EReal.coe_sub, log_mul (sub_nonneg.2 h1) (sigm_mem x).1]

/-- The logarithm of the gate, in the kernel's form. -/
theorem logGate_eq {r : ℝ} (h0 : 0 ≤ r) (h1 : r ≤ 1) (x : EReal) :
    logGate (Ideal.log (r : EReal)) (Ideal.log1p (-(r : EReal))) x = Ideal.log (gate r x : EReal) := by
  rw [logGate, candidate_eq h1, log_add h0 (mul_nonneg (sub_nonneg.2 h1) (sigm_mem x).1)]
  rfl

/-- The opposite's sigmoid is what the sigmoid leaves of one. -/
theorem div_sigm (x : EReal) : Ideal.div 1 (1 + Ideal.exp (0 - (0 - x))) = ((1 - sigm x : ℝ) : EReal) := by
  rw [zero_sub, zero_sub, neg_neg]
  induction x with
  | bot => simp [sigm_bot, Ideal.div]
  | top =>
    rw [sigm_top, sub_self, Ideal.exp_top, EReal.add_top_of_ne_bot (show (1 : EReal) ≠ ⊥ from EReal.coe_ne_bot 1)]
    simp [Ideal.div]
  | coe x =>
    have hp : (0 : ℝ) < 1 + Real.exp x := by positivity
    rw [Ideal.exp_coe, ← EReal.coe_one, ← EReal.coe_add, Ideal.div_coe hp.ne', ← EReal.coe_mul, sigm_coe]
    congr 1
    rw [Real.exp_neg]
    have hx : Real.exp x ≠ 0 := (Real.exp_pos x).ne'
    have hx' : 1 + Real.exp x ≠ 0 := by positivity
    have hx2 : 1 + (Real.exp x)⁻¹ ≠ 0 := by positivity
    field_simp
    ring

/-- The key: one minus the gate is what the bound leaves times the opposite's sigmoid. -/
theorem key_eq_of {r : ℝ} (h0 : 0 ≤ r) (h1 : r ≤ 1) (x : EReal) : -(Ideal.exp (Ideal.log (gate r x : EReal)) - 1) =
    (1 - (r : EReal)) * Ideal.div 1 (1 + Ideal.exp (0 - (0 - x))) := by
  rw [exp_log (gate_nonneg h0 h1 x), div_sigm, ← EReal.coe_one, ← EReal.coe_sub, ← EReal.coe_sub, ← EReal.coe_neg, ← EReal.coe_mul]
  congr 1
  unfold gate
  ring

/-- The candidate in the reference's form, by the softplus of the opposite. -/
theorem candidate_softplus (l x : EReal) : l + -(max (-x) 0 + Ideal.log1p (Ideal.exp (-max (-x) (-(-x))))) = candidate l x := by
  rw [candidate, sub_eq_add_neg, add_assoc, neg_neg, max_comm (-x) x, zero_sub]
  congr 1
  induction x with
  | bot => simp [log1p_zero]
  | top => simp [log1p_zero]
  | coe x =>
    rw [max_neg, ← EReal.coe_neg, ← EReal.coe_neg, log1p_exp,
      show max ((-x : ℝ) : EReal) 0 = ((max (-x) 0 : ℝ) : EReal) from (EReal.coe_strictMono.monotone.map_max (a := -x) (b := 0)).symm,
      show min (x : EReal) 0 = ((min x 0 : ℝ) : EReal) from (EReal.coe_strictMono.monotone.map_min (a := x) (b := 0)).symm,
      ← EReal.coe_add, ← EReal.coe_neg, ← EReal.coe_neg, ← EReal.coe_add]
    congr 1
    rcases le_total 0 x with h | h
    · rw [min_eq_right h, max_eq_right (by linarith)]
      ring
    · rw [min_eq_left h, max_eq_left (by linarith)]
      ring

end Cert.Hgrn

end
-- ==== Proof.HgrnData.lean ====
/- The recurrence's data, as functions of the projection, the forget gates' lower bounds and the norm's gains: what a chunk of one
   head reads, and the result. -/
module

public import proofs.«01_k».proof.Proof.HgrnGate

@[expose] public section

noncomputable section

open Idealize.ShloMosaic

namespace Cert.Hgrn

/-- The projection: sequences, positions, and the four groups of 512 columns. -/
abbrev Proj := Fin 2 → Fin 8192 → Fin 2048 → EReal

/-- Row `t` of chunk `n` in the sequence. -/
def pos (n : Fin 128) (t : Fin 64) : Fin 8192 := ⟨n.val * 64 + t.val, by omega⟩
/-- Column `d` of head `h`. -/
def col (h : Fin 4) (d : Fin 128) : Fin 512 := ⟨h.val * 128 + d.val, by omega⟩
/-- A trip's chunk. -/
def nth (n : ℕ) : Fin 128 := ⟨n % 128, Nat.mod_lt _ (by decide)⟩

/-- `x` times its sigmoid. -/
def silu (x : EReal) : EReal := x * Ideal.div 1 (1 + Ideal.exp (-x))

variable (X : Proj) (lb : Fin 512 → EReal) (g : Fin 128 → EReal) (b : Fin 2) (h : Fin 4) (n : Fin 128)

/-- The forget gate's input. -/
def fIn (t : Fin 64) (d : Fin 128) : EReal := X b (pos n t) ⟨512 + (col h d).val, by omega⟩
/-- The queries. -/
def qs : Rows := fun t d => silu (X b (pos n t) ⟨(col h d).val, by omega⟩)
/-- The logarithms of the forget gates. -/
def logs : Rows := fun t d => logGate (Ideal.log (lb (col h d))) (Ideal.log1p (-lb (col h d))) (fIn X b h n t d)
/-- The keys. -/
def ks : Rows := fun t d => (1 - lb (col h d)) * Ideal.div 1 (1 + Ideal.exp (0 - (0 - fIn X b h n t d)))
/-- The values. -/
def vs : Rows := fun t d => X b (pos n t) ⟨1024 + (col h d).val, by omega⟩
/-- The logarithms cumulated over the chunk. -/
def cums : Rows := fun t d => ∑ s : Fin 64, if s.val ≤ t.val then logs X lb b h n s d else 0

/-- The state before each chunk. -/
def before (j : ℕ) : Carry :=
  states (fun n => ks X lb b h (nth n)) (fun n => vs X b h (nth n)) (fun n => cums X lb b h (nth n)) j

/-- A chunk's output before the norm. -/
def out : Rows := mix (qs X b h n) (ks X lb b h n) (vs X b h n) (cums X lb b h n) (before X lb b h n.val)

/-- The result: the chunk's output, normalised over the head and gated. -/
def result (t : Fin 64) (e : Fin 128) : EReal :=
  out X lb b h n t e *
      Ideal.rsqrt (Ideal.div (∑ d, out X lb b h n t d * out X lb b h n t d) (Ideal.ofBits .f32 0x43000000#32) +
        Ideal.ofBits .f32 0x358637BD#32) *
    g e * silu (X b (pos n t) ⟨1536 + (col h e).val, by omega⟩)

/-- The recurrence's result by output row and column: the rows run through the sequences, the columns through the heads. -/
def whole (X : Proj) (lb : Fin 512 → EReal) (g : Fin 128 → EReal) (r : Fin 16384) (l : Fin 512) : EReal :=
  result X lb g ⟨r.val / 8192, by omega⟩ ⟨l.val / 128, by omega⟩ ⟨r.val % 8192 / 64, by omega⟩ ⟨r.val % 8192 % 64, by omega⟩
    ⟨l.val % 128, by omega⟩

/-- The inputs on which the recurrence's two forms agree: lower bounds from zero to one. -/
structure Domain (lb : Fin 512 → EReal) : Prop where
  bound : ∀ l, ∃ r : ℝ, lb l = r ∧ 0 ≤ r ∧ r ≤ 1

/-- A trip's chunk, at a trip below 128. -/
theorem nth_of_lt {j : ℕ} (hj : j < 128) : nth j = ⟨j, hj⟩ := Fin.ext (Nat.mod_eq_of_lt hj)

/-- The state after a chunk. -/
theorem before_succ {j : ℕ} (hj : j < 128) : before X lb b h (j + 1) =
    carry (ks X lb b h ⟨j, hj⟩) (vs X b h ⟨j, hj⟩) (cums X lb b h ⟨j, hj⟩) (before X lb b h j) := by
  rw [← nth_of_lt hj]
  rfl

variable {X lb}

/-- The gates' logarithms are at most zero. -/
theorem logs_nonpos (D : Domain lb) (t : Fin 64) (d : Fin 128) : logs X lb b h n t d ≤ 0 := by
  obtain ⟨r, hr, h0, h1⟩ := D.bound (col h d)
  rw [logs, hr, logGate_eq h0 h1]
  exact log_nonpos (gate_le h1 _)

/-- The cumulated logarithms fall. -/
theorem cums_fall (D : Domain lb) : Falls (cums X lb b h n) := by
  intro s t d hst
  constructor
  · refine Finset.sum_le_sum fun u _ => ?_
    by_cases hs : u.val ≤ s.val
    · rw [if_pos hs, if_pos (hs.trans hst)]
    · rw [if_neg hs]
      split
      · exact logs_nonpos b h n D u d
      · exact le_rfl
  · refine Finset.sum_nonpos fun u _ => ?_
    split
    · exact logs_nonpos b h n D u d
    · exact le_rfl

/-- The reference's key. -/
theorem key_eq (D : Domain lb) (t : Fin 64) (d : Fin 128) : -(Ideal.exp (logs X lb b h n t d) - 1) = ks X lb b h n t d := by
  obtain ⟨r, hr, h0, h1⟩ := D.bound (col h d)
  rw [logs, ks, hr, logGate_eq h0 h1, key_eq_of h0 h1]

end Cert.Hgrn

end
-- ==== Proof.HgrnChunk.lean ====
/- One chunk of the recurrence's kernel on the recurrence's data: its four heads give the result's entries and the next states. -/
module

public import proofs.«01_k».proof.Proof.HgrnPoint
public import proofs.«01_k».proof.Proof.HgrnHead
public import proofs.«01_k».proof.Proof.HgrnData

@[expose] public section

set_option maxRecDepth 65536

noncomputable section

open Idealize.ShloMosaic Idealize.ShloMosaic.TcCoe Idealize.ShloMosaic.Tactic Idealize.SL.Sem
open Cert.Hgrn

namespace Cert.KernelIdeal.Body
open Cert.KernelIdeal Cert.KernelIdeal.Gen

variable (X : Proj) (lb : Fin 512 → EReal) (g : Fin 128 → EReal) (b : Fin 2) (n : Fin 128)

/-- The six blocks of chunk `n` of sequence `b`: four slices of the projection, the table of constants, and the triangle of ones. -/
structure Blocks (x0 x1 x2 x3 : FVec Ideal S64x512 .f32) (x4 : FVec Ideal S8x512 .f32) (x5 : FVec Ideal S64x64 .f32) : Prop where
  q : ∀ t l, x0 (ix2 t l) = X b (pos n t) ⟨l.val, by omega⟩
  f : ∀ t l, x1 (ix2 t l) = X b (pos n t) ⟨512 + l.val, by omega⟩
  v : ∀ t l, x2 (ix2 t l) = X b (pos n t) ⟨1024 + l.val, by omega⟩
  o : ∀ t l, x3 (ix2 t l) = X b (pos n t) ⟨1536 + l.val, by omega⟩
  c0 : ∀ l, x4 (ix2 0 l) = Ideal.log (lb l)
  c1 : ∀ l, x4 (ix2 1 l) = Ideal.log1p (-lb l)
  c2 : ∀ l, x4 (ix2 2 l) = 1 - lb l
  c3 : ∀ l, x4 (ix2 3 l) = g ⟨l.val % 128, by omega⟩
  tri : ∀ t s : Fin 64, x5 (ix2 t s) = if s.val ≤ t.val then 1 else 0

section Reads

variable {x0 x1 x2 x3 : FVec Ideal S64x512 .f32} {l0 l1 l2 l3 : FVec Ideal S1x512 .f32} {lt : FVec Ideal S64x64 .f32}

/-- A head's columns, entry by entry. -/
theorem cols_at (h : Fin 4) (x : FVec Ideal S64x512 .f32) (t : Fin 64) (d : Fin 128) : cols h x (ix2 t d) = x (ix2 t (col h d)) := by
  have e : col h d = ⟨128 * h.val + d.val, by omega⟩ := Fin.ext (by simp only [col]; omega)
  rw [e]
  pointwise [cols]

/-- A head's columns of a row, entry by entry. -/
theorem colsRow_at (h : Fin 4) (x : FVec Ideal S1x512 .f32) (d : Fin 128) : colsRow h x (ix2 0 d) = x (ix2 0 (col h d)) := by
  have e : col h d = ⟨128 * h.val + d.val, by omega⟩ := Fin.ext (by simp only [col]; omega)
  rw [e]
  pointwise [colsRow]

/-- The forget gates' logarithms, entry by entry. -/
theorem logF_at (t : Fin 64) (l : Fin 512) :
    logF (F := Ideal) l0 l1 x1 (ix2 t l) = logGate (l0 (ix2 0 l)) (l1 (ix2 0 l)) (x1 (ix2 t l)) := by
  pointwise [logF, k0_pay8, k0_pay5]
  rfl

/-- The cumulated logarithms, entry by entry. -/
theorem cumF_at (t : Fin 64) (l : Fin 512) :
    cumF (F := Ideal) l0 l1 x1 lt (ix2 t l) = ∑ s, lt (ix2 t s) * logF (F := Ideal) l0 l1 x1 (ix2 s l) := by
  unfold cumF
  generalize logF (F := Ideal) l0 l1 x1 = w
  pointwise [k0_pay12]

/-- The last row of the cumulated logarithms. -/
theorem lastF_at (l : Fin 512) :
    k0_pay13 (logF (F := Ideal) l0 l1 x1) lt (ix2 0 l) = cumF (F := Ideal) l0 l1 x1 lt (ix2 63 l) := by
  unfold cumF
  generalize logF (F := Ideal) l0 l1 x1 = w
  pointwise [k0_pay13, k0_pay12]

/-- The keys, entry by entry. -/
theorem keys_at (t : Fin 64) (l : Fin 512) :
    keys (F := Ideal) l2 x1 (ix2 t l) = l2 (ix2 0 l) * Ideal.div 1 (1 + Ideal.exp (0 - (0 - x1 (ix2 t l)))) := by
  pointwise [keys, k0_pay9, k0_pay3, k0_pay5]

/-- The queries, entry by entry. -/
theorem queries_at (t : Fin 64) (l : Fin 512) : queries (F := Ideal) x0 (ix2 t l) = silu (x0 (ix2 t l)) := by
  rw [silu, ← zero_sub]
  pointwise [queries, k0_pay10, k0_pay6]

/-- The output's gate, entry by entry. -/
theorem gates_at (t : Fin 64) (l : Fin 512) : k0_pay11 (F := Ideal) (k0_pay7 x3) (ix2 t l) = silu (x3 (ix2 t l)) := by
  rw [silu, ← zero_sub]
  pointwise [k0_pay11, k0_pay7]

/-- The rows' normalisation and gate, entry by entry. -/
theorem norm_at (o : FVec Ideal S64x128 .f32) (w : FVec Ideal S1x128 .f32) (z : FVec Ideal S64x128 .f32) (t : Fin 64) (e : Fin 128) :
    headNorm o w z (ix2 t e) = o (ix2 t e) *
      Ideal.rsqrt (Ideal.div (∑ d, o (ix2 t d) * o (ix2 t d)) (Ideal.ofBits .f32 0x43000000#32) + Ideal.ofBits .f32 0x358637BD#32) *
      w (ix2 0 e) * z (ix2 t e) := by
  pointwise [headNorm]

/-- The queries decayed from the chunk's start, entry by entry. -/
theorem started_at (q w : FVec Ideal S64x512 .f32) (h : Fin 4) (t : Fin 64) (d : Fin 128) :
    cols h (mulf q (exp w)) (ix2 t d) = cols h q (ix2 t d) * Ideal.exp (cols h w (ix2 t d)) := by
  simp only [cols_at]
  generalize col h d = l
  pointwise

/-- The keys decayed to the chunk's end, entry by entry. -/
theorem ended_at (k w : FVec Ideal S64x512 .f32) (z : FVec Ideal S1x512 .f32) (h : Fin 4) (t : Fin 64) (d : Fin 128) :
    cols h (mulf k (exp (subf (broadcastTo S64x512 z broadcasts_S1x512_S64x512) w))) (ix2 t d) =
      cols h k (ix2 t d) * Ideal.exp (colsRow h z (ix2 0 d) - cols h w (ix2 t d)) := by
  simp only [cols_at, colsRow_at]
  generalize col h d = l
  pointwise

end Reads

variable {x0 x1 x2 x3 : FVec Ideal S64x512 .f32} {x4 : FVec Ideal S8x512 .f32} {x5 : FVec Ideal S64x64 .f32}
variable (B : Blocks X lb g b n x0 x1 x2 x3 x4 x5)

/-- Rows of the table, entry by entry. -/
theorem row_at (x4 : FVec Ideal S8x512 .f32) (l : Fin 512) : row0 (F := Ideal) x4 (ix2 0 l) = x4 (ix2 0 l) ∧ row1 (F := Ideal) x4 (ix2 0 l) = x4 (ix2 1 l) ∧
    row2 (F := Ideal) x4 (ix2 0 l) = x4 (ix2 2 l) ∧ row3 (F := Ideal) x4 (ix2 0 l) = x4 (ix2 3 l) := by
  refine ⟨?_, ?_, ?_, ?_⟩
  · pointwise [row0]
  · pointwise [row1]
  · pointwise [row2]
  · pointwise [row3]

include B

/-- The chunk's queries of a head. -/
theorem q_eq (h : Fin 4) : at2 (cols h (queries x0)) = qs X b h n := by
  funext t d
  rw [at2, cols_at, queries_at, B.q, qs]

/-- The chunk's keys of a head. -/
theorem k_eq (h : Fin 4) : at2 (cols h (keys (row2 (F := Ideal) x4) x1)) = ks X lb b h n := by
  funext t d
  rw [at2, cols_at, keys_at, (row_at x4 _).2.2.1, B.c2, B.f, ks, fIn]

/-- The chunk's cumulated logarithms of a head. -/
theorem b_eq (h : Fin 4) : at2 (cols h (cumF (row0 (F := Ideal) x4) (row1 (F := Ideal) x4) x1 x5)) = cums X lb b h n := by
  funext t d
  rw [at2, cols_at, cumF_at, cums]
  refine Finset.sum_congr rfl fun s _ => ?_
  rw [logF_at, (row_at x4 _).1, (row_at x4 _).2.1, B.c0, B.c1, B.f, B.tri, ite_mul, one_mul, zero_mul]
  rfl

/-- The chunk's output gate of a head. -/
theorem gate_eq (h : Fin 4) (t : Fin 64) (e : Fin 128) : cols h (k0_pay11 (F := Ideal) (k0_pay7 x3)) (ix2 t e) =
    silu (X b (pos n t) ⟨1536 + (col h e).val, by omega⟩) := by
  rw [cols_at, gates_at, B.o]

/-- The norm's weights of a head. -/
theorem weight_eq (h : Fin 4) (e : Fin 128) :
    colsRow (F := Ideal) h (shapeCast S1x512 (row3 (F := Ideal) x4) shapeCasts_S1x512_S1x512) (ix2 0 e) = g e := by
  have : shapeCast S1x512 (row3 (F := Ideal) x4) shapeCasts_S1x512_S1x512 = row3 (F := Ideal) x4 := shapeCast_self _ _
  rw [this, colsRow_at, (row_at x4 _).2.2.2, B.c3]
  exact congrArg g (Fin.ext (by simp only [col]; omega))

variable (D : Domain lb) (h : Fin 4) (w : FVec Ideal S64x128 .f32) (st : FVec Ideal S1x128x128 .f32)
  (hw : at2 w = vs X b h n) (hst : keyed st = before X lb b h n.val)
include hw hst

/-- A head's states after the chunk. -/
theorem next_eq (d e : Fin 128) : next h x1 (row0 (F := Ideal) x4) (row1 (F := Ideal) x4) (row2 (F := Ideal) x4) x5 w st (ix3 0 e d) =
    before X lb b h (n.val + 1) d e := by
  have hv : shapeCast S64x128 w shapeCasts_S64x128_S64x128 = w := shapeCast_self _ _
  rw [next, hv, headState_at (cols h (cumF (row0 (F := Ideal) x4) (row1 (F := Ideal) x4) x1 x5)) (cols h (keys (row2 (F := Ideal) x4) x1)), hst, hw, k_eq X lb g b n B,
    b_eq X lb g b n B, before_succ X lb b h n.isLt]
  · intro d; rw [colsRow_at, cols_at, lastF_at]
  · intro s d; rw [ended_at, colsRow_at, lastF_at, cols_at h (cumF (row0 (F := Ideal) x4) (row1 (F := Ideal) x4) x1 x5) 63]

include D

/-- A head's normalised and gated output. -/
theorem head_eq (t : Fin 64) (e : Fin 128) :
    head h x0 x1 x3 (row0 (F := Ideal) x4) (row1 (F := Ideal) x4) (row2 (F := Ideal) x4) (row3 (F := Ideal) x4) x5 w st (ix2 t e) = result X lb g b h n t e := by
  have hv : shapeCast S64x128 w shapeCasts_S64x128_S64x128 = w := shapeCast_self _ _
  have hb : Cert.Hgrn.Falls (at2 (cols h (cumF (row0 (F := Ideal) x4) (row1 (F := Ideal) x4) x1 x5))) := by
    rw [b_eq X lb g b n B h]
    exact cums_fall b h n D
  have ho (t e) : headOut (cols h (cumF (row0 (F := Ideal) x4) (row1 (F := Ideal) x4) x1 x5)) (cols h (queries x0)) (cols h (keys (row2 (F := Ideal) x4) x1))
      (cols h (mulf (queries x0) (exp (cumF (row0 (F := Ideal) x4) (row1 (F := Ideal) x4) x1 x5)))) w st (ix2 t e) = out X lb b h n t e := by
    rw [headOut_at _ _ _ hb _ _ _ (started_at _ _ h), q_eq X lb g b n B, k_eq X lb g b n B, b_eq X lb g b n B, hw, hst, out]
  rw [head, hv, norm_at, result, gate_eq X lb g b n B, weight_eq X lb g b n B]
  simp only [ho]

omit B D hw hst in
/-- The values of the heads, entry by entry. -/
theorem val_at (x2 : FVec Ideal S64x512 .f32) (t : Fin 64) (d : Fin 128) : val0 (F := Ideal) x2 (ix2 t d) = x2 (ix2 t (col 0 d)) ∧
    val1 (F := Ideal) x2 (ix2 t d) = x2 (ix2 t (col 1 d)) ∧ val2 (F := Ideal) x2 (ix2 t d) = x2 (ix2 t (col 2 d)) ∧
    val3 (F := Ideal) x2 (ix2 t d) = x2 (ix2 t (col 3 d)) := by
  have e0 : col 0 d = ⟨d.val, by omega⟩ := Fin.ext (by simp [col])
  have e1 : col 1 d = ⟨128 + d.val, by omega⟩ := Fin.ext (by simp [col])
  have e2 : col 2 d = ⟨256 + d.val, by omega⟩ := Fin.ext (by simp [col])
  have e3 : col 3 d = ⟨384 + d.val, by omega⟩ := Fin.ext (by simp [col])
  rw [e0, e1, e2, e3]
  refine ⟨?_, ?_, ?_, ?_⟩
  · pointwise [val0]
  · pointwise [val1]
  · pointwise [val2]
  · pointwise [val3]

omit B D hw hst in
/-- The states of the heads, entry by entry. -/
theorem st_at (s : FVec Ideal S4x128x128 .f32) (e d : Fin 128) : st0 (F := Ideal) s (ix3 0 e d) = s (ix3 0 e d) ∧
    st1 (F := Ideal) s (ix3 0 e d) = s (ix3 1 e d) ∧ st2 (F := Ideal) s (ix3 0 e d) = s (ix3 2 e d) ∧
    st3 (F := Ideal) s (ix3 0 e d) = s (ix3 3 e d) := by
  refine ⟨?_, ?_, ?_, ?_⟩
  · pointwise [st0]
  · pointwise [st1]
  · pointwise [st2]
  · pointwise [st3]

omit D hw hst in
/-- The values of the heads are the chunk's. -/
theorem val_eq : at2 (val0 (F := Ideal) x2) = vs X b 0 n ∧ at2 (val1 (F := Ideal) x2) = vs X b 1 n ∧
    at2 (val2 (F := Ideal) x2) = vs X b 2 n ∧ at2 (val3 (F := Ideal) x2) = vs X b 3 n := by
  refine ⟨?_, ?_, ?_, ?_⟩ <;> funext t d
  · rw [at2, (val_at x2 t d).1, B.v, vs]
  · rw [at2, (val_at x2 t d).2.1, B.v, vs]
  · rw [at2, (val_at x2 t d).2.2.1, B.v, vs]
  · rw [at2, (val_at x2 t d).2.2.2, B.v, vs]

section Point

variable (s : FVec Ideal S4x128x128 .f32) (hs : ∀ h d e, s (ix3 h e d) = before X lb b h n.val d e)
include hs

omit B D hw hst in
/-- The states of the heads are those before the chunk. -/
theorem st_eq : keyed (st0 (F := Ideal) s) = before X lb b 0 n.val ∧ keyed (st1 (F := Ideal) s) = before X lb b 1 n.val ∧
    keyed (st2 (F := Ideal) s) = before X lb b 2 n.val ∧ keyed (st3 (F := Ideal) s) = before X lb b 3 n.val := by
  refine ⟨?_, ?_, ?_, ?_⟩ <;> funext d e
  · exact (st_at s e d).1.trans (hs 0 d e)
  · exact (st_at s e d).2.1.trans (hs 1 d e)
  · exact (st_at s e d).2.2.1.trans (hs 2 d e)
  · exact (st_at s e d).2.2.2.trans (hs 3 d e)

omit D hw hst in
/-- The states a chunk leaves are those before the next chunk. -/
theorem pointNext_eq (d e : Fin 128) :
    pointNext (F := Ideal) x1 x2 x4 x5 s h (ix3 0 e d) = before X lb b h (n.val + 1) d e := by
  have hv := val_eq X lb g b n B
  have ht := st_eq X lb b n s hs
  match h with
  | 0 => exact next_eq X lb g b n B 0 _ _ hv.1 ht.1 d e
  | 1 => exact next_eq X lb g b n B 1 _ _ hv.2.1 ht.2.1 d e
  | 2 => exact next_eq X lb g b n B 2 _ _ hv.2.2.1 ht.2.2.1 d e
  | 3 => exact next_eq X lb g b n B 3 _ _ hv.2.2.2 ht.2.2.2 d e

omit hw hst h w st in
include D in
/-- A chunk's output is the result's rows. -/
theorem pointOut_eq (t : Fin 64) (l : Fin 512) : pointOut (F := Ideal) x0 x1 x2 x3 x4 x5 s (ix2 t l) =
    result X lb g b ⟨l.val / 128, by omega⟩ n t ⟨l.val % 128, by omega⟩ := by
  have hv := val_eq X lb g b n B
  have ht := st_eq X lb b n s hs
  have k0 := head_eq X lb g b n B D 0 _ _ hv.1 ht.1
  have k1 := head_eq X lb g b n B D 1 _ _ hv.2.1 ht.2.1
  have k2 := head_eq X lb g b n B D 2 _ _ hv.2.2.1 ht.2.2.1
  have k3 := head_eq X lb g b n B D 3 _ _ hv.2.2.2 ht.2.2.2
  rw [pointOut, chunkOut]
  revert k0 k1 k2 k3
  generalize head 0 x0 x1 x3 (row0 (F := Ideal) x4) (row1 (F := Ideal) x4) (row2 (F := Ideal) x4) (row3 (F := Ideal) x4) x5 _ _ = y0
  generalize head 1 x0 x1 x3 (row0 (F := Ideal) x4) (row1 (F := Ideal) x4) (row2 (F := Ideal) x4) (row3 (F := Ideal) x4) x5 _ _ = y1
  generalize head 2 x0 x1 x3 (row0 (F := Ideal) x4) (row1 (F := Ideal) x4) (row2 (F := Ideal) x4) (row3 (F := Ideal) x4) x5 _ _ = y2
  generalize head 3 x0 x1 x3 (row0 (F := Ideal) x4) (row1 (F := Ideal) x4) (row2 (F := Ideal) x4) (row3 (F := Ideal) x4) x5 _ _ = y3
  intro k0 k1 k2 k3
  pointwise
  by_cases h0 : l.val < 128
  · rw [dif_pos h0, k0]
    congr 1 <;> exact Fin.ext (by simp <;> omega)
  rw [dif_neg h0]
  by_cases h1 : l.val - 128 < 128
  · rw [dif_pos h1, k1]
    congr 1 <;> exact Fin.ext (by simp <;> omega)
  rw [dif_neg h1]
  by_cases h2 : l.val - 128 - 128 < 128
  · rw [dif_pos h2, k2]
    congr 1 <;> exact Fin.ext (by simp <;> omega)
  rw [dif_neg h2, k3]
  congr 1 <;> exact Fin.ext (by simp <;> omega)

end Point

end Cert.KernelIdeal.Body

end
-- ==== Proof.HgrnHost.lean ====
/- What the host hands the recurrence's kernel, entry by entry: the table of constants, the triangle of ones, the projection. -/
module

public import proofs.«01_k».proof.Proof.Gen.KernelIdeal.Value
public import proofs.«01_k».proof.Proof.HgrnData
public import Idealize.ShloMosaic.Lib.Routing.OpsSet
public import Idealize.ShloMosaic.Lib.WordCmp
public import Idealize.ShloMosaic.Lib.Pointwise

@[expose] public section

set_option maxRecDepth 65536

noncomputable section

open Idealize.ShloMosaic Idealize.ShloMosaic.TcCoe Idealize.ShloMosaic.Tactic Idealize.SL.Sem

namespace Cert.KernelIdeal.Host
open Cert.KernelIdeal Cert.KernelIdeal.Gen

/-- Where an update of the set row lands. -/
theorem lands_row (idx : IVec S1 32) (k : Fin 8) (hk : (idx (ix1 0)).toInt = (k.val : Int)) (w l : Fin 512) (r : Fin 8) :
    scatter_S8x512_S1_S512_0_0_0_0.resultIdx? (ix1 w) idx = some (ix2 r l) ↔ r = k ∧ w = l := by
  have hs0 : scatter_S8x512_S1_S512_0_0_0_0.start (ix1 w) idx 0 = (k.val : Int) := by
    rw [← hk]
    unfold ScatterDims.start
    rw [dif_pos (by decide)]
    refine congrArg (fun z => (idx z).toInt) ?_
    funext a
    match a with
    | ⟨0, _⟩ => exact Subsingleton.elim (α := Fin 1) _ _
  have hs1 : scatter_S8x512_S1_S512_0_0_0_0.start (ix1 w) idx 1 = 0 := by
    unfold ScatterDims.start
    rw [dif_neg (by decide)]
  have hw0 : scatter_S8x512_S1_S512_0_0_0_0.window (ix1 w) 0 = 0 := rfl
  have hw1 : scatter_S8x512_S1_S512_0_0_0_0.window (ix1 w) 1 = w.val := rfl
  rw [ix2_eq_valueIdx, Routing.resultIdx?_ix2, hs0, hs1, hw0, hw1, Fin.ext_iff, Fin.ext_iff]
  omega

/-- Setting row `k` of a table, entry by entry. -/
theorem setRow_at (x : FVec Ideal S8x512 .f32) (idx : IVec S1 32) (u : FVec Ideal S512 .f32) (k : Fin 8)
    (hk : (idx (ix1 0)).toInt = (k.val : Int)) (r : Fin 8) (l : Fin 512) :
    Host.scatter scatter_S8x512_S1_S512_0_0_0_0 (fun _ b => b) x idx u (ix2 r l) = if r = k then u (ix1 l) else x (ix2 r l) := by
  by_cases h : r = k
  · rw [if_pos h]
    refine Routing.scatter_set_hit _ x idx u _ _ (fun j hj => ?_) (ix1 l) ((lands_row idx k hk l l r).2 ⟨h, rfl⟩)
    obtain ⟨w, rfl⟩ : ∃ w : Fin 512, j = ix1 w := ⟨j 0, eq_ix1 j⟩
    rw [((lands_row idx k hk w l r).1 hj).2]
  · rw [if_neg h]
    refine Routing.scatter_set_miss _ x idx u _ fun j hj => ?_
    obtain ⟨w, rfl⟩ : ∃ w : Fin 512, j = ix1 w := ⟨j 0, eq_ix1 j⟩
    exact h ((lands_row idx k hk w l r).1 hj).1

variable (m : (ℓ : Loc nD τ sig) → Buf (Elt Ideal) ℓ) (c : Dev nD)

/-- One less a vector, entry by entry. -/
theorem one_less (x : FVec Ideal S512 .f32) (l : Fin 512) :
    subf (broadcastInDim S512 ![] bcast_S_S512 (constant S_ .f32 1065353216#32)) x (ix1 l) = 1 - x (ix1 l) := by
  pointwise

/-- A row of weights repeated per head, entry by entry. -/
theorem repeated (x : FVec Ideal S128 .f32) (l : Fin 512) : shapeCast S512 (broadcastInDim S4x128 ![0, 1] bcast_S1x128_S4x128_0_1
    (shapeCast S1x128 x shapeCasts_S128_S1x128)) shapeCasts_S4x128_S512 (ix1 l) = x (ix1 ⟨l.val % 128, by omega⟩) := by
  pointwise

/-- The projection the program reads. -/
abbrev projIn : Hgrn.Proj := fun b n k => m ((c.tc : Thread nD τ).loc main_arg0) (ix3 b n k)
/-- The lower bounds the program reads. -/
abbrev boundIn : Fin 512 → EReal := fun l => m ((c.tc : Thread nD τ).loc main_arg2) (ix1 l)
/-- The norm's weights the program reads. -/
abbrev weightIn : Fin 128 → EReal := fun d => m ((c.tc : Thread nD τ).loc main_arg1) (ix1 d)

/-- The lower bounds' logarithms. -/
theorem table_zero (l : Fin 512) : V m c main_v16 (ix2 0 l) = Ideal.log (boundIn m c l) := by
  entry_read
  rw [setRow_at _ _ _ 3 (by rfl), setRow_at _ _ _ 2 (by rfl), setRow_at _ _ _ 1 (by rfl), setRow_at _ _ _ 0 (by rfl),
    if_neg (by decide), if_neg (by decide), if_neg (by decide), if_pos rfl]
  rfl

/-- The logarithms of one less the lower bounds. -/
theorem table_one (l : Fin 512) : V m c main_v16 (ix2 1 l) = Ideal.log1p (-boundIn m c l) := by
  entry_read
  rw [setRow_at _ _ _ 3 (by rfl), setRow_at _ _ _ 2 (by rfl), setRow_at _ _ _ 1 (by rfl),
    if_neg (by decide), if_neg (by decide), if_pos rfl]
  rfl

/-- One less the lower bounds. -/
theorem table_two (l : Fin 512) : V m c main_v16 (ix2 2 l) = (1 - boundIn m c l : EReal) := by
  entry_read
  rw [setRow_at _ _ _ 3 (by rfl), setRow_at _ _ _ 2 (by rfl), if_neg (by decide), if_pos rfl]
  exact one_less _ l

/-- The norm's weights, once per head. -/
theorem table_three (l : Fin 512) :
    V m c main_v16 (ix2 3 l) = weightIn m c ⟨l.val % 128, by omega⟩ := by
  entry_read
  rw [setRow_at _ _ _ 3 (by rfl), if_pos rfl]
  exact repeated _ l

/-- The triangle of ones. -/
theorem triangle_at (t s : Fin 64) : V m c main_v23 (ix2 t s) = if s.val ≤ t.val then (1 : EReal) else 0 := by
  entry_read
  pointwise
  rw [WordCmp.cmpi_sle_ofNat (by omega) (by omega)]
  by_cases h : s.val ≤ t.val
  · simp [h, FloatOps.uitofp]
  · simp [h, FloatOps.uitofp]

/-- The projection with its sequences one after the other. -/
theorem proj_at (r : Fin 16384) (k : Fin 2048) :
    V m c main_v24 (ix2 r k) = projIn m c ⟨r.val / 8192, by omega⟩ ⟨r.val % 8192, by omega⟩ k := by
  entry_read
  unfold projIn
  generalize m ((c.tc : Thread nD τ).loc main_arg0) = x
  pointwise

end Cert.KernelIdeal.Host

end
-- ==== Proof.HgrnValue.lean ====
/- The recurrence's kernel over its grid: each point finds its chunk's blocks, the carried states are those before the chunk, and the
   array after the run is the result. -/
module

public import proofs.«01_k».proof.Proof.HgrnChunk
public import proofs.«01_k».proof.Proof.HgrnHost

@[expose] public section

set_option maxRecDepth 65536

noncomputable section

open Idealize.ShloMosaic Idealize.ShloMosaic.TcCoe Idealize.ShloMosaic.Tactic Idealize.SL.Sem
open Cert.Hgrn

namespace Cert.KernelIdeal.Value
open Cert.KernelIdeal Cert.KernelIdeal.Gen
open Cert.KernelIdeal.Host (projIn boundIn weightIn)

variable (m : (ℓ : Loc nD τ sig) → Buf (Elt Ideal) ℓ) (c : Dev nD)

/-- The block of each window at a grid point: the rows move with the point, the slices of the projection are blocks of columns. -/
theorem idx : ∀ t : Fin cfg0.N, win0_0.index t = ![t.val, 0] ∧ win0_1.index t = ![t.val, 1] ∧ win0_2.index t = ![t.val, 2]
    ∧ win0_3.index t = ![t.val, 3] ∧ win0_4.index t = ![0, 0] ∧ win0_5.index t = ![0, 0] ∧ win0_6.index t = ![t.val, 0] :=
  (by decide +kernel : ∀ t : Fin grid0.N, _)

/-- The sequence of a grid point. -/
abbrev seqOf (t : Fin cfg0.N) : Fin 2 := ⟨t.val / 128, by have : t.val < 256 := t.isLt; omega⟩
/-- The chunk of a grid point. -/
abbrev chunkOf (t : Fin cfg0.N) : Fin 128 := ⟨t.val % 128, by omega⟩

/-- A row of the projection, by grid point and row of the chunk. -/
theorem proj_row (t : Fin cfg0.N) (s : Fin 64) (r : Fin 16384) (hr : r.val = t.val * 64 + s.val) (k : Fin 2048) :
    V m c main_v24 (ix2 r k) = projIn m c (seqOf t) (pos (chunkOf t) s) k := by
  rw [Host.proj_at]
  have e1 : (⟨r.val / 8192, by omega⟩ : Fin 2) = seqOf t := Fin.ext (by simp only; omega)
  have e2 : (⟨r.val % 8192, by omega⟩ : Fin 8192) = pos (chunkOf t) s := Fin.ext (by simp only [pos]; omega)
  rw [e1, e2]

/-- Each point finds its chunk's blocks. -/
theorem blocks (t : Fin cfg0.N) : Body.Blocks (projIn m c) (boundIn m c) (weightIn m c) (seqOf t) (chunkOf t)
    (iblk m c 0 t) (iblk m c 1 t) (iblk m c 2 t) (iblk m c 3 t) (iblk m c 4 t) (iblk m c 5 t) := by
  have ht : t.val < 256 := t.isLt
  constructor
  · intro s l
    rw [← proj_row m c t s ⟨t.val * 64 + s.val, by omega⟩ rfl]
    blk_point [iblk, idx t]
  · intro s l
    rw [← proj_row m c t s ⟨t.val * 64 + s.val, by omega⟩ rfl]
    blk_point [iblk, idx t]
  · intro s l
    rw [← proj_row m c t s ⟨t.val * 64 + s.val, by omega⟩ rfl]
    blk_point [iblk, idx t]
  · intro s l
    rw [← proj_row m c t s ⟨t.val * 64 + s.val, by omega⟩ rfl]
    blk_point [iblk, idx t]
  · intro l
    rw [← Host.table_zero]
    blk_simp [iblk]
    generalize V m c main_v16 = T
    blk_point [idx t]
  · intro l
    rw [← Host.table_one]
    blk_simp [iblk]
    generalize V m c main_v16 = T
    blk_point [idx t]
  · intro l
    rw [← Host.table_two]
    blk_simp [iblk]
    generalize V m c main_v16 = T
    blk_point [idx t]
  · intro l
    rw [← Host.table_three]
    blk_simp [iblk]
    generalize V m c main_v16 = T
    blk_point [idx t]
  · intro s l
    rw [← Host.triangle_at m c]
    blk_simp [iblk]
    generalize V m c main_v23 = T
    blk_point [idx t]

/-- The states after a point are those before the next chunk. -/
def After (t : Fin cfg0.N) (s : FVec Ideal S4x128x128 .f32) : Prop :=
  ∀ h d e, s (ix3 h e d) = before (projIn m c) (boundIn m c) (seqOf t) h (t.val % 128 + 1) d e

/-- The zero states are those before the first chunk. -/
theorem zero_state (b : Fin 2) (n : Fin 128) (hn : n.val = 0) (h : Fin 4) (d e : Fin 128) :
    k0_pay2 (F := Ideal) (ix3 h e d) = before (projIn m c) (boundIn m c) b h n.val d e := by
  rw [hn]
  pointwise [k0_pay2]
  rfl

/-- A sequence's first point leaves the states before the second chunk. -/
theorem state_first (t : Fin cfg0.N) (h0 : t.val % 128 = 0) (acc) : After m c t (stAt0 m c t.val t.isLt acc).2 := by
  intro h d e
  rw [stAt0_A m c t acc h0]
  dsimp only
  refine (Body.state_first (F := Ideal) _ _ _ _ _ _ _ _ _ _ _ _ _ _ _ _ _ _ _ _ _ _ _ _ _ (ix3 h e d)).trans ?_
  exact Body.pointNext_eq _ _ _ _ _ (blocks m c t) h _ (zero_state m c _ _ h0) d e

/-- A later point leaves the states before the next chunk. -/
theorem state_later (t : Fin cfg0.N) (h0 : ¬t.val % 128 = 0) (acc : Vec Ideal S64x512 .bf16 × Vec Ideal S4x128x128 .f32)
    (ha : ∀ h d e, acc.2 (ix3 h e d) = before (projIn m c) (boundIn m c) (seqOf t) h (t.val % 128) d e) :
    After m c t (stAt0 m c t.val t.isLt acc).2 := by
  intro h d e
  rw [stAt0_B m c t acc h0]
  dsimp only
  refine (Body.state_later (F := Ideal) _ _ _ _ _ _ _ _ _ _ _ _ _ _ _ _ _ _ _ _ _ _ _ _ _ _ (ix3 h e d)).trans ?_
  exact Body.pointNext_eq _ _ _ _ _ (blocks m c t) h _ ha d e

/-- The states carried along the grid. -/
theorem carried : (n : ℕ) → (hn : n < cfg0.N) → After m c ⟨n, hn⟩ (outsAt0 m c n hn).2
  | 0, hn => by
    rw [outsAt0_zero]
    exact state_first m c ⟨0, hn⟩ rfl _
  | n + 1, hn => by
    rw [outsAt0_succ]
    by_cases h0 : (n + 1) % 128 = 0
    · exact state_first m c ⟨n + 1, hn⟩ h0 _
    · refine state_later m c ⟨n + 1, hn⟩ h0 _ fun h d e => ?_
      have ih := carried n (Nat.lt_of_succ_lt hn) h d e
      have e1 : seqOf ⟨n, Nat.lt_of_succ_lt hn⟩ = seqOf ⟨n + 1, hn⟩ := Fin.ext (by simp only; omega)
      have e2 : n % 128 + 1 = (n + 1) % 128 := by omega
      rw [e1] at ih
      simp only [e2] at ih
      exact ih

/-- The result by grid point and row of the chunk. -/
theorem whole_at (X : Proj) (lb : Fin 512 → EReal) (g : Fin 128 → EReal) (t : Fin cfg0.N) (s : Fin 64) (r : Fin 16384)
    (hr : r.val = t.val * 64 + s.val) (l : Fin 512) : whole X lb g r l =
      result X lb g (seqOf t) ⟨l.val / 128, by omega⟩ (chunkOf t) s ⟨l.val % 128, by omega⟩ := by
  have e1 : (⟨r.val / 8192, by omega⟩ : Fin 2) = seqOf t := Fin.ext (by simp only; omega)
  have e2 : (⟨r.val % 8192 / 64, by omega⟩ : Fin 128) = chunkOf t := Fin.ext (by simp only; omega)
  have e3 : (⟨r.val % 8192 % 64, by omega⟩ : Fin 64) = s := Fin.ext (by simp only; omega)
  rw [whole, e1, e2, e3]

variable (D : Domain (boundIn m c))
include D

/-- What a point writes is its chunk's rows of the result. -/
theorem written (t : Fin cfg0.N) (s : Fin 64) (l : Fin 512) : (outsAt0 m c t.val t.isLt).1 (ix2 s l) =
    result (projIn m c) (boundIn m c) (weightIn m c) (seqOf t) ⟨l.val / 128, by omega⟩ (chunkOf t) s ⟨l.val % 128, by omega⟩ := by
  obtain ⟨n, hn⟩ := t
  by_cases h0 : n % 128 = 0
  · have : ∃ acc, outsAt0 m c n hn = stAt0 m c n hn acc := by
      match n with
      | 0 => exact ⟨_, outsAt0_zero m c hn⟩
      | n + 1 => exact ⟨_, outsAt0_succ m c n hn⟩
    obtain ⟨acc, ha⟩ := this
    rw [ha, stAt0_A m c ⟨n, hn⟩ acc h0]
    dsimp only
    refine (congrFun (Body.out_first (F := Ideal) _ _ _ _ _ _ _ _ _ _ _ _ _ _ _ _ _ _ _ _ _ _ _ _ _) (ix2 s l)).trans ?_
    exact Body.pointOut_eq _ _ _ _ _ (blocks m c ⟨n, hn⟩) D _ (zero_state m c _ _ h0) s l
  · match n with
    | 0 => exact absurd rfl h0
    | n + 1 =>
      rw [outsAt0_succ, stAt0_B m c ⟨n + 1, hn⟩ _ h0]
      dsimp only
      refine (congrFun (Body.out_later (F := Ideal) _ _ _ _ _ _ _ _ _ _ _ _ _ _ _ _ _ _ _ _ _ _ _ _ _ _) (ix2 s l)).trans ?_
      refine Body.pointOut_eq _ _ _ _ _ (blocks m c ⟨n + 1, hn⟩) D _ (fun h d e => ?_) s l
      have ih := carried m c n (Nat.lt_of_succ_lt hn) h d e
      have e1 : seqOf ⟨n, Nat.lt_of_succ_lt hn⟩ = seqOf ⟨n + 1, hn⟩ := Fin.ext (by simp only; omega)
      have e2 : n % 128 + 1 = (n + 1) % 128 := by omega
      rw [e1] at ih
      simp only [e2] at ih
      exact ih

/-- The array after the run is the result. -/
theorem final : (dats m 0 c).arrAt 6 (cfgs 0).N =
    fun i => whole (projIn m c) (boundIn m c) (weightIn m c) (i 0) (i 1) := by
  refine (dats m 0 c).arrAt_eq_of_covers 6 _ (by decide +kernel) fun t _ y => ?_
  blk_simp
  rw [after0_6]
  obtain ⟨r, l, rfl⟩ : ∃ (r : Fin 64) (l : Fin 512), y = ix2 r l := ⟨y 0, y 1, eq_ix2 y⟩
  have ht : t.val < 256 := t.isLt
  refine ((written m c D t r l).trans (whole_at _ _ _ t r ⟨t.val * 64 + r.val, by omega⟩ rfl l).symm).trans ?_
  generalize whole (projIn m c) (boundIn m c) (weightIn m c) = W
  change (fun i : S16384x512.Idx => W (i 0) (i 1)) (ix2 ⟨t.val * 64 + r.val, by omega⟩ l) =
    (fun i : S16384x512.Idx => W (i 0) (i 1)) ((win0_6.blk t).view.emb (ix2 r l))
  generalize (fun i : S16384x512.Idx => W (i 0) (i 1)) = W'
  blk_point [idx t]

end Cert.KernelIdeal.Value

end
-- ==== Proof.HgrnReference.lean ====
/- The recurrence's reference, entry by entry: its chunks are the recurrence's data, each trip hands on the next state and writes
   its chunk's output, and the result is the normalised and gated output. -/
module

public import proofs.«01_k».proof.Proof.RefRun
public import proofs.«01_k».proof.Proof.HgrnData
public import Idealize.ShloMosaic.Lib.Pipeline.ValueKit
public import Idealize.ShloMosaic.Lib.WordCmp
public import Idealize.ShloMosaic.Lib.Pointwise

@[expose] public section

set_option maxRecDepth 65536

noncomputable section

open Idealize.ShloMosaic Idealize.ShloMosaic.TcCoe Idealize.ShloMosaic.Tactic Idealize.SL.Sem

namespace Cert.ReferenceIdeal.Step
open Cert.ReferenceIdeal Cert.ReferenceIdeal.Gen

variable {j : ℕ} (hj : j < 128) (s : State Ideal) (b : Fin 2) (h : Fin 4)

/-- Where a trip's chunk starts, axis by axis. -/
abbrev startOf (j : ℕ) : Fin 5 → Int := fun k =>
  ((![constantI S_ 32 (BitVec.ofNat 32 j), constantI S_ 32 0#32, constantI S_ 32 0#32, constantI S_ 32 0#32,
    constantI S_ 32 0#32] : Fin 5 → (⟨S_, .i32⟩ : BufTy).Contents (Elt Ideal)) k (Shape.Idx.first h_S_)).toInt

include hj in
/-- A trip's chunk starts at the trip's number. -/
theorem start_trip (ht) : Host.clampedStart S128x2x4x64x128 S1x2x4x64x128 ht (startOf j) 0 = j := by
  refine Host.clampedStart_of_le _ _ _ _ ?_ ?_
  · change (BitVec.ofNat 32 j).toInt = j
    rw [BitVec.toInt_eq_toNat_of_lt (by rw [BitVec.toNat_ofNat]; omega), BitVec.toNat_ofNat, Nat.mod_eq_of_lt (by omega)]
  · change j + 1 ≤ 128
    omega

/-- It starts at zero on axis 1. -/
theorem start_one (ht) : Host.clampedStart S128x2x4x64x128 S1x2x4x64x128 ht (startOf j) 1 = 0 :=
  Host.clampedStart_of_le _ _ _ _ rfl (Nat.zero_add _).le
/-- It starts at zero on axis 2. -/
theorem start_two (ht) : Host.clampedStart S128x2x4x64x128 S1x2x4x64x128 ht (startOf j) 2 = 0 :=
  Host.clampedStart_of_le _ _ _ _ rfl (Nat.zero_add _).le
/-- It starts at zero on axis 3. -/
theorem start_three (ht) : Host.clampedStart S128x2x4x64x128 S1x2x4x64x128 ht (startOf j) 3 = 0 :=
  Host.clampedStart_of_le _ _ _ _ rfl (Nat.zero_add _).le
/-- It starts at zero on axis 4. -/
theorem start_four (ht) : Host.clampedStart S128x2x4x64x128 S1x2x4x64x128 ht (startOf j) 4 = 0 :=
  Host.clampedStart_of_le _ _ _ _ rfl (Nat.zero_add _).le

include hj in
/-- A trip's queries. -/
theorem q_at (t : Fin 64) (d : Fin 128) : b5 j s (ix4 b h t d) = s.main_v47_0 (ix5 ⟨j, hj⟩ b h t d) := by
  pointwise [b5, b4, b0, b1, b2, b3]
  simp only [start_trip hj, start_one, start_two, start_three, start_four, Nat.zero_add, Nat.add_zero]

include hj in
/-- A trip's keys. -/
theorem k_at (t : Fin 64) (d : Fin 128) : b11 j s (ix4 b h t d) = s.main_v47_1 (ix5 ⟨j, hj⟩ b h t d) := by
  pointwise [b11, b10, b6, b7, b8, b9]
  simp only [start_trip hj, start_one, start_two, start_three, start_four, Nat.zero_add, Nat.add_zero]

include hj in
/-- A trip's values. -/
theorem v_at (t : Fin 64) (d : Fin 128) : b17 j s (ix4 b h t d) = s.main_v47_2 (ix5 ⟨j, hj⟩ b h t d) := by
  pointwise [b17, b16, b12, b13, b14, b15]
  simp only [start_trip hj, start_one, start_two, start_three, start_four, Nat.zero_add, Nat.add_zero]

include hj in
/-- A trip's cumulated logarithms. -/
theorem b_at (t : Fin 64) (d : Fin 128) : b23 j s (ix4 b h t d) = s.main_v47_3 (ix5 ⟨j, hj⟩ b h t d) := by
  pointwise [b23, b22, b18, b19, b20, b21]
  simp only [start_trip hj, start_one, start_two, start_three, start_four, Nat.zero_add, Nat.add_zero]

include hj in
/-- A trip writes its own chunk's output. -/
theorem ys_at (n : Fin 128) (t : Fin 64) (e : Fin 128) : b64 j s (ix5 n b h t e) = if n.val = j then b58 j s (ix4 b h t e) else s.main_v47_7 (ix5 n b h t e) := by
  pointwise [b64, b63, b62, b61, b60, b59]
  simp only [start_trip hj, start_one, start_two, start_three, start_four, Nat.zero_le, Nat.sub_zero, and_true]
  by_cases c : n.val = j
  · rw [if_pos c, dif_pos (by omega)]
  · rw [if_neg c, dif_neg (by omega)]

/-- Adding up a list's terms one by one, from `a`. -/
theorem foldl_add {ι : Type} (f : ι → EReal) : (l : List ι) → (a : EReal) → l.foldl (fun r i => r + f i) a = a + (l.map f).sum
  | [], a => by simp
  | i :: l, a => by rw [List.foldl_cons, foldl_add f l, List.map_cons, List.sum_cons, add_assoc]

/-- Adding up a window's terms in order is their sum. -/
theorem foldl_window (W : Shape) (f : W.Idx → EReal) :
    (List.finRange W.numel).foldl (fun r n => r + f (W.rowMajor.symm n)) 0 = ∑ w, f w := by
  rw [foldl_add (fun n => f (W.rowMajor.symm n)), zero_add, ← Fin.sum_univ_def]
  exact Equiv.sum_comp W.rowMajor.symm f

/-- The operand's entry that a window meets, and zero outside the operand. -/
def met (x : FVec Ideal S128x2x4x64x128 .f32) (i : S128x2x4x64x128.Idx) (w : (⟨5, ![1, 1, 1, 64, 1]⟩ : Shape).Idx) : EReal :=
  if hin : ∀ a : Fin 5, (![0, 0, 0, 63, 0] : Fin 5 → ℕ) a ≤ (i a).val * (![1, 1, 1, 1, 1] : Fin 5 → ℕ) a + (w a).val ∧
      (i a).val * (![1, 1, 1, 1, 1] : Fin 5 → ℕ) a + (w a).val - (![0, 0, 0, 63, 0] : Fin 5 → ℕ) a < S128x2x4x64x128.size a then
    x (fun a => ⟨(i a).val * (![1, 1, 1, 1, 1] : Fin 5 → ℕ) a + (w a).val - (![0, 0, 0, 63, 0] : Fin 5 → ℕ) a, (hin a).2⟩) else 0

/-- A running sum over a chunk's rows, as a window of 64 rows that ends at the row. -/
theorem window_at (x : FVec Ideal S128x2x4x64x128 .f32) (z : S_.Idx → Ideal .f32) (hz : z (Shape.Idx.first h_S_) = (0 : EReal)) (hw)
    (i : S128x2x4x64x128.Idx) :
    Host.reduceWindowAdd ![1, 1, 1, 64, 1] ![1, 1, 1, 1, 1] ![0, 0, 0, 63, 0] ![0, 0, 0, 0, 0] x z hw h_S_ i = ∑ w, met x i w := by
  unfold Host.reduceWindowAdd
  rw [Ideal.hostReduceWindowAdd_def, ← foldl_window ⟨5, ![1, 1, 1, 64, 1]⟩ (met x i), hz]
  unfold Ideal.hostReduceWindowAdd Host.reduceWindow
  exact congrArg (fun f => List.foldl f (0 : EReal) (List.finRange (⟨5, ![1, 1, 1, 64, 1]⟩ : Shape).numel))
    (funext₂ fun r m => congrArg (r + ·) (dite_congr rfl (fun _ => rfl) fun _ => rfl))

/-- What the window's row `w` meets. -/
theorem met_at (x : FVec Ideal S128x2x4x64x128 .f32) (n : Fin 128) (b : Fin 2) (h : Fin 4) (t : Fin 64) (d : Fin 128) (w : Fin 64) :
    met x (ix5 n b h t d) (ix5 0 0 0 w 0) =
      if 63 ≤ t.val + w.val then (if g : t.val + w.val - 63 < 64 then x (ix5 n b h ⟨t.val + w.val - 63, g⟩ d) else 0) else 0 := by
  by_cases c : 63 ≤ t.val + w.val
  · have g : t.val + w.val - 63 < 64 := by omega
    rw [if_pos c, dif_pos g, met, dif_pos ?_]
    · congr 1
      funext a
      match a with
      | 0 => exact Fin.ext (by simp)
      | 1 => exact Fin.ext (by simp)
      | 2 => exact Fin.ext (by simp)
      | 3 => exact Fin.ext (by simp)
      | 4 => exact Fin.ext (by simp)
    · intro a
      match a with
      | 0 => simp <;> omega
      | 1 => simp <;> omega
      | 2 => simp <;> omega
      | 3 => simp; omega
      | 4 => simp <;> omega
  · rw [if_neg c, met, dif_neg ?_]
    intro hin
    have := (hin 3).1
    simp at this
    omega

/-- The cumulated logarithms of a chunk. -/
theorem cum_at (x : FVec Ideal S2x8192x2048 .f32) (l : FVec Ideal S512 .f32) (n : Fin 128) (t : Fin 64) (d : Fin 128) :
   A_main_v36 (F := Ideal) x l (ix5 n b h t d) = ∑ s : Fin 64, if s.val ≤ t.val then A_main_v35 (F := Ideal) x l (ix5 n b h s d) else 0 := by
  unfold A_main_v36
  rw [window_at _ _ (by pointwise [K_main_call2_call0_v0, K_main_call2_call0_cst]), sum_idx5]
  simp only [Fin.sum_univ_one, met_at]
  have e := Hgrn.sum_window (fun s => if g : s < 64 then A_main_v35 (F := Ideal) x l (ix5 n b h ⟨s, g⟩ d) else 0) t
  refine e.trans (Finset.sum_congr rfl fun s _ => ?_)
  rw [dif_pos s.isLt]
/-- A trip's chunk of an array. -/
abbrev chunk (x : FVec Ideal S128x2x4x64x128 .f32) (n : Fin 128) (b : Fin 2) (h : Fin 4) : Hgrn.Rows := fun t d => x (ix5 n b h t d)

/-- The word of minus infinity. -/
theorem neg_inf : Ideal.ofBits .f32 0xFF800000#32 = ⊥ := by simp [Ideal.ofBits, Ideal.ieee]

/-- The causal mask selects as comparing row numbers does. -/
theorem select_mask (t x : Fin 64) (y z : EReal) :
    Scalar.select (Scalar.select (IntOp.cmpi .sge (IntOp.addi (BitVec.ofNat 32 t.val) 0#32) (BitVec.ofNat 32 x.val)) 1#1 0#1) y z =
      if x.val ≤ t.val then y else z := by
  rw [show IntOp.addi (BitVec.ofNat 32 t.val) 0#32 = BitVec.ofNat 32 t.val from BitVec.add_zero _,
    WordCmp.cmpi_sge_ofNat (by omega) (by omega)]
  by_cases c : x.val ≤ t.val <;> simp [c, Scalar.select]

include hj in
/-- A trip hands on the chunk's carry. -/
theorem next_at (d e : Fin 128) : b57 j s (ix4 b h d e) =
    Hgrn.carry (chunk s.main_v47_1 ⟨j, hj⟩ b h) (chunk s.main_v47_2 ⟨j, hj⟩ b h) (chunk s.main_v47_3 ⟨j, hj⟩ b h)
      (fun d e => s.main_v47_6 (ix4 b h d e)) d e := by
  pointwise [b57, b56, b55, b54, b53, b52, b51, b50, b49, b48, b47, b46]
  simp only [k_at hj, v_at hj, b_at hj]
  rfl

include hj in
/-- A trip computes the chunk's output. -/
theorem mix_at (t : Fin 64) (e : Fin 128) : b58 j s (ix4 b h t e) =
    Hgrn.mix (chunk s.main_v47_0 ⟨j, hj⟩ b h) (chunk s.main_v47_1 ⟨j, hj⟩ b h) (chunk s.main_v47_2 ⟨j, hj⟩ b h)
      (chunk s.main_v47_3 ⟨j, hj⟩ b h) (fun d e => s.main_v47_6 (ix4 b h d e)) t e := by
  pointwise [b58, b45, b44, b43, b42, b41, b40, b39, b38, b37, b36, b35, b34, b33, b32, b31, b30, b29, b28, b27, b26, b25, b24,
    K_main_v38, K_main_call3_v4, K_main_call3_v5, K_main_v37, K_main_call3_c_0, K_main_c, K_main_call3_v2, K_main_call3_v3,
    K_main_call3_v0, K_main_call3_v1, K_main_call3_c]
  simp only [q_at hj, k_at hj, v_at hj, b_at hj, select_mask, neg_inf]
  rfl

section Inputs

variable (x : FVec Ideal S2x8192x2048 .f32) (l : FVec Ideal S512 .f32)

/-- The projection by sequence, position and column. -/
abbrev projOf : Hgrn.Proj := fun b n c => x (ix3 b n c)
/-- The lower bounds by column. -/
abbrev boundOf : Fin 512 → EReal := fun c => l (ix1 c)

/-- The queries. -/
theorem queries_at (n : Fin 128) : chunk (A_main_v41 (F := Ideal) x l) n b h = Hgrn.qs (projOf x) b h n := by
  funext t d
  unfold chunk
  pointwise [A_main_v41, A_main_v40, A_main_v32, A_main_v31, A_main_call1_v5, A_main_call1_v3, A_main_call1_v1, A_main_call1_v0,
    A_main_v0, K_main_call1_v2, K_main_call1_v4, K_main_call1_cst, K_main_call1_cst_0]
  rfl

/-- The values. -/
theorem values_at (n : Fin 128) : chunk (A_main_v45 (F := Ideal) x l) n b h = Hgrn.vs (projOf x) b h n := by
  funext t d
  unfold chunk
  pointwise [A_main_v45, A_main_v44, A_main_v33, A_main_v2]
  rfl

/-- The scaled sigmoid's logarithm. -/
theorem candidate_at (n : Fin 128) (t : Fin 64) (d : Fin 128) :
    A_main_v14 (F := Ideal) x l (ix4 b (Hgrn.pos n t) h d) =
      Hgrn.candidate (Ideal.log1p (-boundOf l (Hgrn.col h d))) (Hgrn.fIn (projOf x) b h n t d) := by
  rw [← Hgrn.candidate_softplus]
  pointwise [A_main_v14, A_main_v13, A_main_v12, A_main_v11, A_main_v10, A_main_v9, A_main_v8, A_main_v7, A_main_v5, A_main_v4,
    A_main_v1, A_main_call0_v1, A_main_call0_v3, A_main_call0_v4, A_main_call0_v6, A_main_call0_v7, A_main_call0_v8,
    A_main_call0_v9, A_main_call0_v10, A_main_call0_v11, K_main_call0_v0, K_main_call0_v2, K_main_call0_v5, K_main_call0_cst]
  simp only [ne_eq, not_true_eq_false, if_false]
  rfl

/-- The forget gates' logarithms. -/
theorem logs_at (n : Fin 128) (t : Fin 64) (d : Fin 128) :
    A_main_v28 (F := Ideal) x l (ix4 b (Hgrn.pos n t) h d) = Hgrn.logs (projOf x) (boundOf l) b h n t d := by
  have hc := candidate_at b h x l n t d
  have ha : A_main_v15 (F := Ideal) x l (ix4 0 0 h d) = Ideal.log (boundOf l (Hgrn.col h d)) := by
    pointwise [A_main_v15, A_main_v6, A_main_v4]
    rfl
  pointwise [A_main_v28, A_main_v20, A_main_v19, A_main_v18, A_main_v22, A_main_v27, A_main_v26, A_main_v25, A_main_v24,
    A_main_v23, A_main_v17, A_main_v16, A_main_v21]
  rw [ha, hc]
  simp only [ne_eq, not_true_eq_false, if_false]
  rw [Hgrn.logs, Hgrn.logGate, zero_sub]
  rfl

/-- The keys. -/
theorem keys_at (D : Hgrn.Domain (boundOf l)) (n : Fin 128) :
    chunk (A_main_v43 (F := Ideal) x l) n b h = Hgrn.ks (projOf x) (boundOf l) b h n := by
  funext t d
  rw [← Hgrn.key_eq b h n D, ← logs_at b h x l]
  unfold chunk
  pointwise [A_main_v43, A_main_v42, A_main_v30, A_main_v29]
  rfl

/-- The cumulated logarithms. -/
theorem cums_at (n : Fin 128) :
    chunk (A_main_v36 (F := Ideal) x l) n b h = Hgrn.cums (projOf x) (boundOf l) b h n := by
  funext t d
  unfold chunk Hgrn.cums
  rw [cum_at]
  refine Finset.sum_congr rfl fun s _ => ?_
  rw [← logs_at b h x l]
  pointwise [A_main_v35, A_main_v34]
  rfl

/-- The result, from the outputs of all chunks. -/
theorem result_of (g : FVec Ideal S128 .f32)
    (hs : ∀ n b h t e, s.main_v47_7 (ix5 n b h t e) = Hgrn.out (projOf x) (boundOf l) b h n t e) (r : Fin 16384) (k : Fin 512) :
    R_main_v68 s x g (ix2 r k) = Hgrn.whole (projOf x) (boundOf l) (fun d => g (ix1 d)) r k := by
  have hp : Hgrn.pos ⟨r.val % 8192 / 64, by omega⟩ ⟨r.val % 8192 % 64, by omega⟩ = ⟨r.val % 8192, by omega⟩ :=
    Fin.ext (by simp only [Hgrn.pos]; omega)
  have hc : (⟨1536 + (Hgrn.col ⟨k.val / 128, by omega⟩ ⟨k.val % 128, by omega⟩).val, by omega⟩ : Fin 2048) =
      ⟨1536 + k.val, by omega⟩ := Fin.ext (by simp only [Hgrn.col]; omega)
  rw [Hgrn.whole, Hgrn.result, hp, hc]
  pointwise [R_main_v68]
  simp only [hs]
  rfl

end Inputs

end Cert.ReferenceIdeal.Step

namespace Cert.ReferenceIdeal.Iter
open Cert.ReferenceIdeal Cert.ReferenceIdeal.Gen
open Cert.ReferenceIdeal.Step (State step init projOf boundOf chunk)

variable (m : (ℓ : Loc nD τ sig) → Buf (Elt Ideal) ℓ) (c : Dev nD)

/-- The projection the program reads. -/
abbrev projIn : Hgrn.Proj := projOf (m ((c.tc : Thread nD τ).loc main_arg0))
/-- The lower bounds the program reads. -/
abbrev boundIn : Fin 512 → EReal := boundOf (m ((c.tc : Thread nD τ).loc main_arg2))

/-- Before trip `j`: the chunks as computed at the start, the state before chunk `j`, and the outputs of the chunks before it. -/
structure Reached (j : ℕ) (s : State Ideal) : Prop where
  q : ∀ n b h, chunk s.main_v47_0 n b h = Hgrn.qs (projIn m c) b h n
  k : ∀ n b h, chunk s.main_v47_1 n b h = Hgrn.ks (projIn m c) (boundIn m c) b h n
  v : ∀ n b h, chunk s.main_v47_2 n b h = Hgrn.vs (projIn m c) b h n
  b : ∀ n b h, chunk s.main_v47_3 n b h = Hgrn.cums (projIn m c) (boundIn m c) b h n
  state : ∀ b h d e, s.main_v47_6 (ix4 b h d e) = Hgrn.before (projIn m c) (boundIn m c) b h j d e
  out : ∀ n b h t e, n.val < j → s.main_v47_7 (ix5 n b h t e) = Hgrn.out (projIn m c) (boundIn m c) b h n t e

variable (D : Hgrn.Domain (boundIn m c))
include D

/-- The states the trips reach. -/
theorem reached : (j : ℕ) → j ≤ 128 → Reached m c j (states m c j)
  | 0, _ =>
    { q := fun n b h => Step.queries_at b h (m ((c.tc : Thread nD τ).loc main_arg0)) (m ((c.tc : Thread nD τ).loc main_arg2)) n
      k := fun n b h => Step.keys_at b h (m ((c.tc : Thread nD τ).loc main_arg0)) (m ((c.tc : Thread nD τ).loc main_arg2)) D n
      v := fun n b h => Step.values_at b h (m ((c.tc : Thread nD τ).loc main_arg0)) (m ((c.tc : Thread nD τ).loc main_arg2)) n
      b := fun n b h => Step.cums_at b h (m ((c.tc : Thread nD τ).loc main_arg0)) (m ((c.tc : Thread nD τ).loc main_arg2)) n
      state := fun b h d e => by
        change Step.K_main_v39 (F := Ideal) (ix4 b h d e) = 0
        pointwise [Step.K_main_v39, Step.K_main_cst]
      out := fun n b h t e l => absurd l (Nat.not_lt_zero _) }
  | j + 1, hj => by
    have ih := reached j (Nat.le_of_succ_le hj)
    have hS (b h) : (fun d e => (states m c j).main_v47_6 (ix4 b h d e)) = Hgrn.before (projIn m c) (boundIn m c) b h j :=
      funext₂ fun d e => ih.state b h d e
    refine { q := ih.q, k := ih.k, v := ih.v, b := ih.b, state := fun b h d e => ?_, out := fun n b h t e l => ?_ }
    · change Step.b57 j (states m c j) (ix4 b h d e) = _
      rw [Step.next_at hj, hS, ih.k, ih.v, ih.b, Hgrn.before_succ _ _ _ _ hj]
    · change Step.b64 j (states m c j) (ix5 n b h t e) = _
      rw [Step.ys_at hj]
      by_cases e' : n.val = j
      · rw [if_pos e', Step.mix_at hj, hS, ih.q, ih.k, ih.v, ih.b, Hgrn.out, e']
        have : n = ⟨j, hj⟩ := Fin.ext e'
        rw [this]
      · rw [if_neg e']
        exact ih.out n b h t e (by omega)

/-- The reference's result, entry by entry. -/
theorem result_at (r : Fin 16384) (l : Fin 512) :
    Step.R_main_v68 (states m c 128) (m ((c.tc : Thread nD τ).loc main_arg0)) (m ((c.tc : Thread nD τ).loc main_arg1)) (ix2 r l) =
      Hgrn.whole (projIn m c) (boundIn m c) (fun d => m ((c.tc : Thread nD τ).loc main_arg1) (ix1 d)) r l := by
  exact Step.result_of _ _ _ _ (fun n b h t e => (reached m c D 128 le_rfl).out n b h t e n.isLt) r l

end Cert.ReferenceIdeal.Iter

end
-- ==== Proof.HgrnDomain.lean ====
/- The recurrence's precondition, read entry by entry: lower bounds from zero to one. -/
module

public import proofs.«01_k».proof.Proof.Gen.Pre_hgrn_domain
public import proofs.«01_k».proof.Proof.HgrnData
public import Idealize.ShloMosaic.Lib.ReduceAll
public import Idealize.ShloMosaic.Lib.Pointwise

@[expose] public section

set_option maxRecDepth 65536

noncomputable section

open Idealize.ShloMosaic Idealize.ShloMosaic.TcCoe Idealize.ShloMosaic.Tactic Idealize.SL.Sem

namespace Cert.Pre_hgrn_domain
open Cert.Pre_hgrn_domain.Gen

/-- An extended real from zero to one is a real there. -/
theorem real_of_unit {x : EReal} (h0 : 0 ≤ x) (h1 : x ≤ 1) : ∃ r : ℝ, x = r ∧ 0 ≤ r ∧ r ≤ 1 := by
  induction x with
  | bot => simp at h0
  | top => exact absurd h1 (by rw [top_le_iff]; exact EReal.coe_ne_top 1)
  | coe r => exact ⟨r, rfl, by exact_mod_cast h0, by exact_mod_cast h1⟩

/-- A comparison that came out true holds. -/
theorem le_of_cmp_ole {x y : EReal} (h : Ideal.cmp .ole x y = 1#1) : x ≤ y := by
  by_contra c
  simp [Ideal.cmp, c] at h

/-- The same for at least. -/
theorem le_of_cmp {x y : EReal} (h : Ideal.cmp .oge x y = 1#1) : y ≤ x := by
  by_contra c
  simp [Ideal.cmp, c] at h

variable {x : FVec Ideal S2x8192x2048 .f32} {g : FVec Ideal S128 .f32} {l : FVec Ideal S512 .f32}

/-- Where the precondition holds, the two forms of the recurrence agree. -/
theorem domain (h : fn (F := Ideal) x g l = fun _ => 1#1) : Hgrn.Domain (fun k => l (ix1 k)) := by
  have hl := congrFun h ix0
  haveI : Subsingleton S_.Idx := ⟨fun a b => funext fun i => i.elim0⟩
  refine ⟨fun k => ?_⟩
  obtain ⟨e0, e1⟩ := IntOp.andi_eq_one.1 (Host.reduce_andi_all _ _ _ _ _ hl (ix1 k))
  refine real_of_unit (le_of_cmp (Eq.trans ?_ e0)) (le_of_cmp_ole (Eq.trans ?_ e1))
  · pointwise
  · pointwise

end Cert.Pre_hgrn_domain

end
-- ==== Proof.HgrnFinal.lean ====
/- The recurrence's kernel and its reference end with the same array. -/
module

public import proofs.«01_k».proof.Proof.HgrnValue
public import proofs.«01_k».proof.Proof.HgrnReference
public import proofs.«01_k».proof.Proof.HgrnDomain

@[expose] public section

set_option maxRecDepth 65536

noncomputable section

open Idealize.ShloMosaic Idealize.ShloMosaic.TcCoe Idealize.ShloMosaic.Tactic Idealize.SL.Sem

namespace Cert.Hgrn

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- From memories that agree on the arguments, where the precondition holds, the reference's result is the kernel's array. -/
theorem arrays_eq
    (ha : m' ((c.tc : Thread Cert.ReferenceIdeal.nD Cert.ReferenceIdeal.τ).loc Cert.ReferenceIdeal.main_arg0) =
        m ((c.tc : Thread Cert.KernelIdeal.nD Cert.KernelIdeal.τ).loc Cert.KernelIdeal.main_arg0) ∧
      m' ((c.tc : Thread Cert.ReferenceIdeal.nD Cert.ReferenceIdeal.τ).loc Cert.ReferenceIdeal.main_arg1) =
        m ((c.tc : Thread Cert.KernelIdeal.nD Cert.KernelIdeal.τ).loc Cert.KernelIdeal.main_arg1) ∧
      m' ((c.tc : Thread Cert.ReferenceIdeal.nD Cert.ReferenceIdeal.τ).loc Cert.ReferenceIdeal.main_arg2) =
        m ((c.tc : Thread Cert.KernelIdeal.nD Cert.KernelIdeal.τ).loc Cert.KernelIdeal.main_arg2))
    (hp : Cert.Pre_hgrn_domain.fn (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) = fun _ => 1#1) :
    Cert.ReferenceIdeal.Step.R_main_v68 (Cert.ReferenceIdeal.Iter.states m' c 128)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) =
      Cert.KernelIdeal.Value.G6 m c := by
  have D := Cert.Pre_hgrn_domain.domain hp
  have e0 : Cert.ReferenceIdeal.Iter.projIn m' c = Cert.KernelIdeal.Host.projIn m c :=
    funext₃ fun b n k => congrFun ha.1 (ix3 b n k)
  have e1 : (fun d => m' ((c.tc : Thread Cert.ReferenceIdeal.nD Cert.ReferenceIdeal.τ).loc Cert.ReferenceIdeal.main_arg1) (ix1 d)) =
      Cert.KernelIdeal.Host.weightIn m c := funext fun d => congrFun ha.2.1 (ix1 d)
  have e2 : Cert.ReferenceIdeal.Iter.boundIn m' c = Cert.KernelIdeal.Host.boundIn m c := funext fun k => congrFun ha.2.2 (ix1 k)
  have D' : Domain (Cert.ReferenceIdeal.Iter.boundIn m' c) := by
    rw [e2]
    exact D
  rw [← Cert.KernelIdeal.Value.final6 m c]
  refine Eq.trans ?_ (Cert.KernelIdeal.Value.final m c D).symm
  funext i
  obtain ⟨r, l, rfl⟩ : ∃ (r : Fin 16384) (l : Fin 512), i = ix2 r l := ⟨i 0, i 1, eq_ix2 i⟩
  refine (Cert.ReferenceIdeal.Iter.result_at m' c D' r l).trans ?_
  rw [e0, e2, e1]
  rfl

end Cert.Hgrn

end
-- ==== Proof.MixMath.lean ====
/- The mixers' projections, arithmetic: sums against tables of zeros and ones that gather or spread the lanes of a head, the
   rotary embedding and the head norm of one lane. -/
module

public import Idealize.ShloMosaic.PureOps
public import Idealize.ShloMosaic.PureOps.Ideal

@[expose] public section

noncomputable section

open Idealize.ShloMosaic

namespace Cert.Mix

/-- A lane `d` of a head after the rotary embedding with angles `θ`: its own value and that of its partner half a head away,
    which counts negatively in the first half. -/
def embedded (a : Fin 64 → EReal) (θ : Fin 32 → EReal) (d : Fin 64) : EReal :=
  if d.val < 32 then
    a d * Ideal.cos (θ ⟨d.val % 32, by omega⟩) - a ⟨(d.val + 32) % 64, by omega⟩ * Ideal.sin (θ ⟨d.val % 32, by omega⟩)
  else a d * Ideal.cos (θ ⟨d.val % 32, by omega⟩) + a ⟨(d.val + 32) % 64, by omega⟩ * Ideal.sin (θ ⟨d.val % 32, by omega⟩)

/-- A lane of a head after its norm: over the root of the mean square, times the gain. -/
def headNormed (a g : Fin 64 → EReal) (d : Fin 64) : EReal :=
  a d * Ideal.rsqrt (Ideal.div (∑ e, a e * a e) (Ideal.ofBits .f32 0x42800000#32) + Ideal.ofBits .f32 0x358637BD#32) * g d

/-- Against the table that marks the lanes of head `h`, a sum over the lanes is the sum over the head. -/
theorem sum_head (f : Fin 512 → EReal) (h : Fin 8) :
    ∑ k, f k * (if k.val / 64 = h.val then (1 : EReal) else 0) = ∑ d : Fin 64, f ⟨h.val * 64 + d.val, by omega⟩ := by
  refine (Finset.sum_of_injOn (fun d : Fin 64 => (⟨h.val * 64 + d.val, by omega⟩ : Fin 512)) ?_ (fun _ _ => Finset.mem_univ _)
    ?_ ?_).symm
  · intro a _ b _ hab
    have := congrArg Fin.val hab
    exact Fin.ext (by simpa using this)
  · intro k _ hk
    have hne : k.val / 64 ≠ h.val := fun he => hk ⟨⟨k.val % 64, by omega⟩, by simp, Fin.ext (by simp; omega)⟩
    rw [if_neg hne, mul_zero]
  · intro d _
    have hd : (h.val * 64 + d.val) / 64 = h.val := by omega
    simp only [hd, if_true, mul_one]

/-- Against the table that marks the head of each lane, a sum over the heads is the value of the lane's head. -/
theorem sum_lane (f : Fin 128 → EReal) (h : ℕ) (hh : h < 128) :
    ∑ j : Fin 128, f j * (if h = j.val then (1 : EReal) else 0) = f ⟨h, hh⟩ := by
  rw [Finset.sum_eq_single ⟨h, hh⟩]
  · rw [if_pos rfl, mul_one]
  · intro j _ hj
    rw [if_neg (fun he => hj (Fin.ext he.symm)), mul_zero]
  · intro hm
    exact absurd (Finset.mem_univ _) hm

/-- A sixty-fourth of a value is the value over 64. -/
theorem sixtyFourth (s : EReal) : s * Ideal.ofBits .f32 0x3C800000#32 = Ideal.div s (Ideal.ofBits .f32 0x42800000#32) := by
  have h1 : Ideal.ofBits .f32 0x3C800000#32 = ((1 / 64 : ℝ) : EReal) := by
    simp [Ideal.ofBits, Ideal.ieee, -EReal.coe_mul]
    norm_num
  have h2 : Ideal.ofBits .f32 0x42800000#32 = ((64 : ℝ) : EReal) := by
    simp [Ideal.ofBits, Ideal.ieee, -EReal.coe_mul]
    norm_num
  rw [h1, h2, Ideal.div_coe (by norm_num)]

/-- Whether a lane is in the first half of its head, on words. -/
theorem word_half : ∀ l : Fin 512, IntOp.cmpi .slt (IntOp.andi (BitVec.ofNat 32 l.val) 63#32) 32#32
    = if l.val % 64 < 32 then 1#1 else 0#1 := by decide +kernel

/-- The choice of the partner lane by a word. -/
theorem select_half (l : ℕ) (hl : l < 512) (a b : EReal) :
    Scalar.select (IntOp.cmpi .slt (IntOp.andi (BitVec.ofNat 32 l) 63#32) 32#32) a b = if l % 64 < 32 then a else b := by
  rw [word_half ⟨l, hl⟩]
  by_cases h : l % 64 < 32
  · rw [if_pos h, if_pos h]; rfl
  · rw [if_neg h, if_neg h]; rfl

/-- The comparison of a lane with 64. -/
theorem word_below : ∀ l : Fin 128, IntOp.cmpi .slt (BitVec.ofNat 32 l.val) 64#32 = if l.val < 64 then 1#1 else 0#1 := by
  decide +kernel

/-- The choice of the first 64 lanes by a word. -/
theorem select_below (l : ℕ) (hl : l < 128) (a b : EReal) :
    Scalar.select (IntOp.cmpi .slt (BitVec.ofNat 32 l) 64#32) a b = if l < 64 then a else b := by
  rw [word_below ⟨l, hl⟩]
  by_cases h : l < 64
  · rw [if_pos h, if_pos h]; rfl
  · rw [if_neg h, if_neg h]; rfl

/-- The embedding as a lane's cosine and signed sine. -/
theorem embedded_eq (a : Fin 64 → EReal) (θ : Fin 32 → EReal) (l : ℕ) :
    embedded a θ ⟨l % 64, by omega⟩ = a ⟨l % 64, by omega⟩ * Ideal.cos (θ ⟨l % 32, by omega⟩)
      + a ⟨(l + 32) % 64, by omega⟩ * (if l % 64 < 32 then -Ideal.sin (θ ⟨l % 32, by omega⟩) else Ideal.sin (θ ⟨l % 32, by omega⟩)) := by
  have h1 : l % 64 % 32 = l % 32 := by omega
  have h2 : (l % 64 + 32) % 64 = (l + 32) % 64 := by omega
  unfold embedded
  simp only [h1, h2]
  by_cases h : l % 64 < 32
  · rw [if_pos h, if_pos h, sub_eq_add_neg, mul_neg]
  · rw [if_neg h, if_neg h]

end Cert.Mix

end
-- ==== Proof.MixReference.lean ====
/- The mixers' projections, the reference: its projection, its rotary angles, its head norm and its rotary embedding, each
   read at an entry, and its six results made of them. -/
module

public import proofs.«01_k».proof.Proof.Gen.MixInReferenceIdeal
public import proofs.«01_k».proof.Proof.MixMath
public import Idealize.ShloMosaic.Lib.Pointwise

@[expose] public section

set_option maxRecDepth 16384

noncomputable section

open Idealize.ShloMosaic Idealize.ShloMosaic.TcCoe Idealize.SL.Sem

namespace Cert.MixInReferenceIdeal.Value
open Cert.MixInReferenceIdeal Cert.MixInReferenceIdeal.Gen Cert.Mix

/-- The reference's projection of its normalised rows. -/
def proj (X : FVec Ideal S2x8192x1024 .f32) (G : FVec Ideal S1024 .f32) (W : FVec Ideal S1024x5956 .f32) :
    FVec Ideal S2x8192x5956 .f32 :=
  Host.dotGeneral dot_S2x8192x1024_S1024x5956_S2x8192x5956_2_0_01_1_n_n none (mulf (mulf X (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf X X) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 G))) W

/-- The reference's rotary angles: each position times each of the 32 frequencies. -/
def angles (pos : IVec S2x8192 32) : FVec Ideal S2x8192x32 .f32 :=
  mulf (broadcastInDim S2x8192x32 ![0, 1, 2] bcast_S2x8192x1_S2x8192x32_0_1_2 (broadcastInDim S2x8192x1 ![0, 1] bcast_S2x8192_S2x8192x1_0_1 (sitofp .f32 pos))) (broadcastInDim S2x8192x32 ![0, 1, 2] bcast_S1x1x32_S2x8192x32_0_1_2 (broadcastInDim S1x1x32 ![2] bcast_S32_S1x1x32_2 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

/-- The reference's norm of each of eight heads. -/
def headNorm (y : FVec Ideal S2x8192x8x64 .f32) (g : FVec Ideal S64 .f32) : FVec Ideal S2x8192x8x64 .f32 :=
  mulf (mulf y (broadcastInDim S2x8192x8x64 ![0, 1, 2, 3] bcast_S2x8192x8x1_S2x8192x8x64_0_1_2_3 (Host.rsqrt (addf (Host.divf (broadcastInDim S2x8192x8x1 ![0, 1, 2] bcast_S2x8192x8_S2x8192x8x1_0_1_2 (Host.reduceAdd (mulf y y) (constant S_ .f32 0x00000000#32) reducesTo_S2x8192x8x64_S2x8192x8_d3 h_S_)) (broadcastInDim S2x8192x8x1 ![] bcast_S_S2x8192x8x1 (constant S_ .f32 0x42800000#32))) (broadcastInDim S2x8192x8x1 ![] bcast_S_S2x8192x8x1 (constant S_ .f32 0x358637BD#32)))))) (broadcastInDim S2x8192x8x64 ![0, 1, 2, 3] bcast_S1x1x1x64_S2x8192x8x64_0_1_2_3 (broadcastInDim S1x1x1x64 ![3] bcast_S64_S1x1x1x64_3 g))

/-- The reference's rotary embedding of eight heads. -/
def rope8 (y : FVec Ideal S2x8192x8x64 .f32) (A : FVec Ideal S2x8192x32 .f32) : FVec Ideal S2x8192x8x64 .f32 :=
  concatenate S2x8192x8x64 3 [⟨S2x8192x8x32, (subf (mulf (extractStridedSlice S2x8192x8x32 ![0, 0, 0, 0] y slices_S2x8192x8x64_S2x8192x8x32_0_0_0_0) (broadcastInDim S2x8192x8x32 ![0, 1, 2, 3] bcast_S2x8192x1x32_S2x8192x8x32_0_1_2_3 (broadcastInDim S2x8192x1x32 ![0, 1, 3] bcast_S2x8192x32_S2x8192x1x32_0_1_3 (Host.cos A)))) (mulf (extractStridedSlice S2x8192x8x32 ![0, 0, 0, 32] y slices_S2x8192x8x64_S2x8192x8x32_0_0_0_32) (broadcastInDim S2x8192x8x32 ![0, 1, 2, 3] bcast_S2x8192x1x32_S2x8192x8x32_0_1_2_3 (broadcastInDim S2x8192x1x32 ![0, 1, 3] bcast_S2x8192x32_S2x8192x1x32_0_1_3 (Host.sin A)))))⟩, ⟨S2x8192x8x32, (addf (mulf (extractStridedSlice S2x8192x8x32 ![0, 0, 0, 32] y slices_S2x8192x8x64_S2x8192x8x32_0_0_0_32) (broadcastInDim S2x8192x8x32 ![0, 1, 2, 3] bcast_S2x8192x1x32_S2x8192x8x32_0_1_2_3 (broadcastInDim S2x8192x1x32 ![0, 1, 3] bcast_S2x8192x32_S2x8192x1x32_0_1_3 (Host.cos A)))) (mulf (extractStridedSlice S2x8192x8x32 ![0, 0, 0, 0] y slices_S2x8192x8x64_S2x8192x8x32_0_0_0_0) (broadcastInDim S2x8192x8x32 ![0, 1, 2, 3] bcast_S2x8192x1x32_S2x8192x8x32_0_1_2_3 (broadcastInDim S2x8192x1x32 ![0, 1, 3] bcast_S2x8192x32_S2x8192x1x32_0_1_3 (Host.sin A)))))⟩] concatenates_S2x8192x8x32_S2x8192x8x32_S2x8192x8x64_d3

/-- The reference's rotary embedding of four heads. -/
def rope4 (y : FVec Ideal S2x8192x4x64 .f32) (A : FVec Ideal S2x8192x32 .f32) : FVec Ideal S2x8192x4x64 .f32 :=
  concatenate S2x8192x4x64 3 [⟨S2x8192x4x32, (subf (mulf (extractStridedSlice S2x8192x4x32 ![0, 0, 0, 0] y slices_S2x8192x4x64_S2x8192x4x32_0_0_0_0) (broadcastInDim S2x8192x4x32 ![0, 1, 2, 3] bcast_S2x8192x1x32_S2x8192x4x32_0_1_2_3 (broadcastInDim S2x8192x1x32 ![0, 1, 3] bcast_S2x8192x32_S2x8192x1x32_0_1_3 (Host.cos A)))) (mulf (extractStridedSlice S2x8192x4x32 ![0, 0, 0, 32] y slices_S2x8192x4x64_S2x8192x4x32_0_0_0_32) (broadcastInDim S2x8192x4x32 ![0, 1, 2, 3] bcast_S2x8192x1x32_S2x8192x4x32_0_1_2_3 (broadcastInDim S2x8192x1x32 ![0, 1, 3] bcast_S2x8192x32_S2x8192x1x32_0_1_3 (Host.sin A)))))⟩, ⟨S2x8192x4x32, (addf (mulf (extractStridedSlice S2x8192x4x32 ![0, 0, 0, 32] y slices_S2x8192x4x64_S2x8192x4x32_0_0_0_32) (broadcastInDim S2x8192x4x32 ![0, 1, 2, 3] bcast_S2x8192x1x32_S2x8192x4x32_0_1_2_3 (broadcastInDim S2x8192x1x32 ![0, 1, 3] bcast_S2x8192x32_S2x8192x1x32_0_1_3 (Host.cos A)))) (mulf (extractStridedSlice S2x8192x4x32 ![0, 0, 0, 0] y slices_S2x8192x4x64_S2x8192x4x32_0_0_0_0) (broadcastInDim S2x8192x4x32 ![0, 1, 2, 3] bcast_S2x8192x1x32_S2x8192x4x32_0_1_2_3 (broadcastInDim S2x8192x1x32 ![0, 1, 3] bcast_S2x8192x32_S2x8192x1x32_0_1_3 (Host.sin A)))))⟩] concatenates_S2x8192x4x32_S2x8192x4x32_S2x8192x4x64_d3

/-- The reference's rotary embedding of one head. -/
def rope1 (y : FVec Ideal S2x8192x1x64 .f32) (A : FVec Ideal S2x8192x32 .f32) : FVec Ideal S2x8192x1x64 .f32 :=
  concatenate S2x8192x1x64 3 [⟨S2x8192x1x32, (subf (mulf (extractStridedSlice S2x8192x1x32 ![0, 0, 0, 0] y slices_S2x8192x1x64_S2x8192x1x32_0_0_0_0) (broadcastInDim S2x8192x1x32 ![0, 1, 3] bcast_S2x8192x32_S2x8192x1x32_0_1_3 (Host.cos A))) (mulf (extractStridedSlice S2x8192x1x32 ![0, 0, 0, 32] y slices_S2x8192x1x64_S2x8192x1x32_0_0_0_32) (broadcastInDim S2x8192x1x32 ![0, 1, 3] bcast_S2x8192x32_S2x8192x1x32_0_1_3 (Host.sin A))))⟩, ⟨S2x8192x1x32, (addf (mulf (extractStridedSlice S2x8192x1x32 ![0, 0, 0, 32] y slices_S2x8192x1x64_S2x8192x1x32_0_0_0_32) (broadcastInDim S2x8192x1x32 ![0, 1, 3] bcast_S2x8192x32_S2x8192x1x32_0_1_3 (Host.cos A))) (mulf (extractStridedSlice S2x8192x1x32 ![0, 0, 0, 0] y slices_S2x8192x1x64_S2x8192x1x32_0_0_0_0) (broadcastInDim S2x8192x1x32 ![0, 1, 3] bcast_S2x8192x32_S2x8192x1x32_0_1_3 (Host.sin A))))⟩] concatenates_S2x8192x1x32_S2x8192x1x32_S2x8192x1x64_d3

/-- The queries from the projection: normed, turned and scaled. -/
def queries (P : FVec Ideal S2x8192x5956 .f32) (A : FVec Ideal S2x8192x32 .f32) (g : FVec Ideal S64 .f32) :
    FVec Ideal S16384x512 .bf16 :=
  truncf .bf16 (shapeCast _ (mulf (rope8 (headNorm (shapeCast _ (extractStridedSlice S2x8192x512 ![0, 0, 0] P slices_S2x8192x5956_S2x8192x512_0_0_0) shapeCasts_S2x8192x512_S2x8192x8x64) g) A) (broadcastInDim S2x8192x8x64 ![] bcast_S_S2x8192x8x64 (constant S_ .f32 0x3E000000#32))) shapeCasts_S2x8192x8x64_S16384x512) bitsLt_bf16_f32

/-- The keys from the projection: normed and turned. -/
def keys (P : FVec Ideal S2x8192x5956 .f32) (A : FVec Ideal S2x8192x32 .f32) (g : FVec Ideal S64 .f32) :
    FVec Ideal S16384x512 .bf16 :=
  truncf .bf16 (shapeCast _ (rope8 (headNorm (shapeCast _ (extractStridedSlice S2x8192x512 ![0, 0, 512] P slices_S2x8192x5956_S2x8192x512_0_0_512) shapeCasts_S2x8192x512_S2x8192x8x64) g) A) shapeCasts_S2x8192x8x64_S16384x512) bitsLt_bf16_f32

/-- The values from the projection. -/
def values (P : FVec Ideal S2x8192x5956 .f32) : FVec Ideal S16384x512 .bf16 :=
  truncf .bf16 (shapeCast _ (extractStridedSlice S2x8192x512 ![0, 0, 1024] P slices_S2x8192x5956_S2x8192x512_0_0_1024) shapeCasts_S2x8192x512_S16384x512) bitsLt_bf16_f32

/-- The indexer's queries from the projection: turned and scaled. -/
def indexQueries (P : FVec Ideal S2x8192x5956 .f32) (A : FVec Ideal S2x8192x32 .f32) : FVec Ideal S16384x256 .f32 :=
  shapeCast _ (mulf (rope4 (shapeCast _ (extractStridedSlice S2x8192x256 ![0, 0, 1536] P slices_S2x8192x5956_S2x8192x256_0_0_1536) shapeCasts_S2x8192x256_S2x8192x4x64) A) (broadcastInDim S2x8192x4x64 ![] bcast_S_S2x8192x4x64 (constant S_ .f32 0x3E000000#32))) shapeCasts_S2x8192x4x64_S16384x256

/-- The indexer's key, turned, its head weights, halved, and zeros, in one row. -/
def indexKeys (P : FVec Ideal S2x8192x5956 .f32) (A : FVec Ideal S2x8192x32 .f32) : FVec Ideal S16384x128 .f32 :=
  shapeCast _ (concatenate S2x8192x128 2 [⟨S2x8192x64, shapeCast _ (rope1 (broadcastInDim S2x8192x1x64 ![0, 1, 3] bcast_S2x8192x64_S2x8192x1x64_0_1_3 (extractStridedSlice S2x8192x64 ![0, 0, 1792] P slices_S2x8192x5956_S2x8192x64_0_0_1792)) A) shapeCasts_S2x8192x1x64_S2x8192x64⟩, ⟨S2x8192x4, mulf (extractStridedSlice S2x8192x4 ![0, 0, 1856] P slices_S2x8192x5956_S2x8192x4_0_0_1856) (broadcastInDim S2x8192x4 ![] bcast_S_S2x8192x4 (constant S_ .f32 0x3F000000#32))⟩, ⟨S2x8192x60, broadcastInDim S2x8192x60 ![] bcast_S_S2x8192x60 (constant S_ .f32 0x00000000#32)⟩] concatenates_S2x8192x64_S2x8192x4_S2x8192x60_S2x8192x128_d2) shapeCasts_S2x8192x128_S16384x128

/-- The recurrence's four column groups from the projection. -/
def recurrence (P : FVec Ideal S2x8192x5956 .f32) : FVec Ideal S16384x2048 .f32 :=
  shapeCast _ (extractStridedSlice S2x8192x2048 ![0, 0, 1860] P slices_S2x8192x5956_S2x8192x2048_0_0_1860) shapeCasts_S2x8192x2048_S16384x2048

/-- The embedding of eight heads at an entry. -/
theorem rope8_at (y : FVec Ideal S2x8192x8x64 .f32) (A : FVec Ideal S2x8192x32 .f32) (b : Fin 2) (t : Fin 8192) (h : Fin 8)
    (d : Fin 64) : rope8 y A (ix4 b t h d) = embedded (fun e => y (ix4 b t h e)) (fun f => A (ix3 b t f)) d := by
  unfold embedded
  by_cases hd : d.val < 32
  · have h1 : (⟨(d.val + 32) % 64, by omega⟩ : Fin 64) = ⟨32 + d.val, by omega⟩ := Fin.ext (by simp; omega)
    have h2 : (⟨d.val % 32, by omega⟩ : Fin 32) = ⟨d.val, hd⟩ := Fin.ext (by simp; omega)
    rw [h1, h2, if_pos hd]
    pointwise [rope8]
    rw [dif_pos hd]
  · have h1 : (⟨(d.val + 32) % 64, by omega⟩ : Fin 64) = ⟨d.val - 32, by omega⟩ := Fin.ext (by simp; omega)
    have h2 : (⟨d.val % 32, by omega⟩ : Fin 32) = ⟨d.val - 32, by omega⟩ := Fin.ext (by simp; omega)
    have h3 : (⟨32 + (d.val - 32), by omega⟩ : Fin 64) = d := Fin.ext (by simp; omega)
    rw [h1, h2, if_neg hd]
    pointwise [rope8]
    rw [dif_neg hd, h3]

/-- The embedding of four heads at an entry. -/
theorem rope4_at (y : FVec Ideal S2x8192x4x64 .f32) (A : FVec Ideal S2x8192x32 .f32) (b : Fin 2) (t : Fin 8192) (h : Fin 4)
    (d : Fin 64) : rope4 y A (ix4 b t h d) = embedded (fun e => y (ix4 b t h e)) (fun f => A (ix3 b t f)) d := by
  unfold embedded
  by_cases hd : d.val < 32
  · have h1 : (⟨(d.val + 32) % 64, by omega⟩ : Fin 64) = ⟨32 + d.val, by omega⟩ := Fin.ext (by simp; omega)
    have h2 : (⟨d.val % 32, by omega⟩ : Fin 32) = ⟨d.val, hd⟩ := Fin.ext (by simp; omega)
    rw [h1, h2, if_pos hd]
    pointwise [rope4]
    rw [dif_pos hd]
  · have h1 : (⟨(d.val + 32) % 64, by omega⟩ : Fin 64) = ⟨d.val - 32, by omega⟩ := Fin.ext (by simp; omega)
    have h2 : (⟨d.val % 32, by omega⟩ : Fin 32) = ⟨d.val - 32, by omega⟩ := Fin.ext (by simp; omega)
    have h3 : (⟨32 + (d.val - 32), by omega⟩ : Fin 64) = d := Fin.ext (by simp; omega)
    rw [h1, h2, if_neg hd]
    pointwise [rope4]
    rw [dif_neg hd, h3]

/-- The embedding of one head at an entry. -/
theorem rope1_at (y : FVec Ideal S2x8192x1x64 .f32) (A : FVec Ideal S2x8192x32 .f32) (b : Fin 2) (t : Fin 8192) (h : Fin 1)
    (d : Fin 64) : rope1 y A (ix4 b t h d) = embedded (fun e => y (ix4 b t h e)) (fun f => A (ix3 b t f)) d := by
  obtain rfl : h = 0 := Subsingleton.elim _ _
  unfold embedded
  by_cases hd : d.val < 32
  · have h1 : (⟨(d.val + 32) % 64, by omega⟩ : Fin 64) = ⟨32 + d.val, by omega⟩ := Fin.ext (by simp; omega)
    have h2 : (⟨d.val % 32, by omega⟩ : Fin 32) = ⟨d.val, hd⟩ := Fin.ext (by simp; omega)
    rw [h1, h2, if_pos hd]
    pointwise [rope1]
    rw [dif_pos hd]
  · have h1 : (⟨(d.val + 32) % 64, by omega⟩ : Fin 64) = ⟨d.val - 32, by omega⟩ := Fin.ext (by simp; omega)
    have h2 : (⟨d.val % 32, by omega⟩ : Fin 32) = ⟨d.val - 32, by omega⟩ := Fin.ext (by simp; omega)
    have h3 : (⟨32 + (d.val - 32), by omega⟩ : Fin 64) = d := Fin.ext (by simp; omega)
    rw [h1, h2, if_neg hd]
    pointwise [rope1]
    rw [dif_neg hd, h3]

/-- The norm of a head at an entry. -/
theorem headNorm_at (y : FVec Ideal S2x8192x8x64 .f32) (g : FVec Ideal S64 .f32) (b : Fin 2) (t : Fin 8192) (h : Fin 8)
    (d : Fin 64) : headNorm y g (ix4 b t h d) = headNormed (fun e => y (ix4 b t h e)) (fun e => g (ix1 e)) d := by
  unfold headNormed
  pointwise [headNorm]

section Rows
variable (P : FVec Ideal S2x8192x5956 .f32) (A : FVec Ideal S2x8192x32 .f32) (g : FVec Ideal S64 .f32) (R : Fin 16384)

/-- The projection's row under a row of the results. -/
abbrev rowOf (n : Fin 5956) : EReal := P (ix3 ⟨R.val / 8192, by omega⟩ ⟨R.val % 8192, by omega⟩ n)
/-- The angles under a row of the results. -/
abbrev anglesOf (f : Fin 32) : EReal := A (ix3 ⟨R.val / 8192, by omega⟩ ⟨R.val % 8192, by omega⟩ f)

/-- The queries at an entry. -/
theorem queries_at (l : Fin 512) : queries P A g (ix2 R l)
    = embedded (headNormed (fun d => rowOf P R ⟨l.val / 64 * 64 + d.val, by omega⟩) (fun d => g (ix1 d))) (anglesOf A R)
        ⟨l.val % 64, by omega⟩ * Ideal.ofBits .f32 0x3E000000#32 := by
  unfold queries
  pointwise
  rw [rope8_at]
  simp only [headNorm_at]
  pointwise

/-- The keys at an entry. -/
theorem keys_at (l : Fin 512) : keys P A g (ix2 R l)
    = embedded (headNormed (fun d => rowOf P R ⟨512 + (l.val / 64 * 64 + d.val), by omega⟩) (fun d => g (ix1 d)))
        (anglesOf A R) ⟨l.val % 64, by omega⟩ := by
  unfold keys
  pointwise
  rw [rope8_at]
  simp only [headNorm_at]
  pointwise

/-- The values at an entry. -/
theorem values_at (l : Fin 512) : values P (ix2 R l) = rowOf P R ⟨1024 + l.val, by omega⟩ := by
  pointwise [values]

/-- The indexer's queries at an entry. -/
theorem indexQueries_at (l : Fin 256) : indexQueries P A (ix2 R l)
    = embedded (fun d => rowOf P R ⟨1536 + (l.val / 64 * 64 + d.val), by omega⟩) (anglesOf A R) ⟨l.val % 64, by omega⟩
        * Ideal.ofBits .f32 0x3E000000#32 := by
  unfold indexQueries
  pointwise
  rw [rope4_at]
  pointwise

/-- The indexer's key, head weights and zeros at an entry. -/
theorem indexKeys_at (l : Fin 128) : indexKeys P A (ix2 R l)
    = if h : l.val < 64 then embedded (fun d => rowOf P R ⟨1792 + d.val, by omega⟩) (anglesOf A R) ⟨l.val, h⟩
      else if h : l.val - 64 < 4 then rowOf P R ⟨1856 + (l.val - 64), by omega⟩ * Ideal.ofBits .f32 0x3F000000#32 else 0 := by
  unfold indexKeys
  pointwise
  simp only [rope1_at]
  pointwise

/-- The recurrence's columns at an entry. -/
theorem recurrence_at (l : Fin 2048) : recurrence P (ix2 R l) = rowOf P R ⟨1860 + l.val, by omega⟩ := by
  pointwise [recurrence]

end Rows

end Cert.MixInReferenceIdeal.Value

end
-- ==== Proof.MixBody.lean ====
/- The mixers' projections, the kernel's body: each block it stores, read at an entry, at variables. -/
module

public import proofs.«01_k».proof.Proof.Gen.MixInIdeal.Skeleton
public import proofs.«01_k».proof.Proof.MixReference
public import Idealize.ShloMosaic.Lib.KernelVsHost
public import Idealize.ShloMosaic.Lib.Pointwise

@[expose] public section

set_option maxRecDepth 16384

noncomputable section

open Idealize.ShloMosaic Idealize.ShloMosaic.TcCoe Idealize.SL.Sem

namespace Cert.MixInIdeal.Value
open Cert.MixInIdeal Cert.MixInIdeal.Gen Cert.Mix
open Cert.MixInReferenceIdeal.Value (proj rowOf)

/-- A row's batch entry is one of two. -/
theorem batch_lt (R : Fin 16384) : R.val / 8192 < 2 := by omega

/-- A row's token is one of 8192. -/
theorem token_lt (R : Fin 16384) : R.val % 8192 < 8192 := by omega

section Projections
variable (x : FVec Ideal S512x1024 .f32) (g : FVec Ideal S1x1024 .f32) (wa : FVec Ideal S1024x1536 .bf16)
  (wi : FVec Ideal S1024x384 .f32) (wh : FVec Ideal S1024x2048 .bf16)
  (X : FVec Ideal S2x8192x1024 .f32) (G : FVec Ideal S1024 .f32) (W : FVec Ideal S1024x5956 .f32) (r : Fin 512) (R : Fin 16384)
  (hx : ∀ k : Fin 1024, x (ix2 r k) = X (ix3 ⟨R.val / 8192, batch_lt R⟩ ⟨R.val % 8192, token_lt R⟩ k))
  (hg : ∀ k : Fin 1024, g (ix2 0 k) = G (ix1 k))

include hx hg

/-- The attention's columns of the projection. -/
theorem attention_at (hw : ∀ (k : Fin 1024) (n : Fin 1536), wa (ix2 k n) = W (ix2 k ⟨n.val, by omega⟩)) (n : Fin 1536) :
    k0_pay9 (F := Ideal) x g wa (ix2 r n) = rowOf (proj X G W) R ⟨n.val, by omega⟩ := by
  pointwise [k0_pay9, k0_pay4, k0_pay3, proj, rowOf, hx, hg, hw]

/-- The recurrence's columns of the projection. -/
theorem recurrence_at (hw : ∀ (k : Fin 1024) (n : Fin 2048), wh (ix2 k n) = W (ix2 k ⟨1860 + n.val, by omega⟩)) (n : Fin 2048) :
    k0_pay2 (F := Ideal) (k0_pay4 x g) wh (ix2 r n) = rowOf (proj X G W) R ⟨1860 + n.val, by omega⟩ := by
  pointwise [k0_pay2, k0_pay4, k0_pay3, proj, rowOf, hx, hg, hw]

/-- The indexer's columns of the projection. -/
theorem indexer_at (n : Fin 384) (N : Fin 5956) (hw : ∀ k : Fin 1024, wi (ix2 k n) = W (ix2 k N)) :
    k0_pay19 (F := Ideal) (k0_pay3 x g) wi (ix2 r n) = rowOf (proj X G W) R N := by
  pointwise [k0_pay19, k0_pay3, proj, rowOf, hx, hg, hw]

omit hx hg in
/-- The padding columns are zero. -/
theorem padding_at (y : FVec Ideal S512x1024 .f32) (n : Fin 384) (hw : ∀ k : Fin 1024, wi (ix2 k n) = 0) :
    k0_pay19 (F := Ideal) y wi (ix2 r n) = 0 := by
  pointwise [k0_pay19, hw]
  simp

end Projections

/-- The rotary embedding of a block of 512 lanes. -/
def turn512 (y C S : FVec Ideal S512x512 .f32) : FVec Ideal S512x512 .f32 :=
  addf (mulf y C) (mulf (select (cmpi .slt (andi (iota .tc S512x512 32 [1] iota_S512x512_d1_w32) (broadcast S512x512 63#32))
    (broadcast S512x512 32#32)) (dynamicRotate 1 480#32 none y rotates_S512x512_d1)
    (dynamicRotate 1 32#32 none y rotates_S512x512_d1)) S)

/-- The rotary embedding of a block of 512 lanes at an entry. -/
theorem turn512_at (y C S : FVec Ideal S512x512 .f32) (θ : Fin 32 → EReal) (r : Fin 512) (l : Fin 512)
    (hC : C (ix2 r l) = Ideal.cos (θ ⟨l.val % 32, by omega⟩))
    (hS : S (ix2 r l) = if l.val % 64 < 32 then -Ideal.sin (θ ⟨l.val % 32, by omega⟩) else Ideal.sin (θ ⟨l.val % 32, by omega⟩)) :
    turn512 y C S (ix2 r l) = embedded (fun d => y (ix2 r ⟨l.val / 64 * 64 + d.val, by omega⟩)) θ ⟨l.val % 64, by omega⟩ := by
  have h0 : (⟨l.val / 64 * 64 + l.val % 64, by omega⟩ : Fin 512) = l := Fin.ext (by simp; omega)
  rw [embedded_eq _ _ l.val, h0]
  pointwise [turn512]
  rw [select_half l.val (by omega), hC, hS]
  by_cases h : l.val % 64 < 32
  · have h1 : (⟨(l.val + 512 - 480) % 512, by omega⟩ : Fin 512) = ⟨l.val / 64 * 64 + (l.val + 32) % 64, by omega⟩ :=
      Fin.ext (by simp; omega)
    rw [if_pos h, if_pos h, h1]
  · have h1 : (⟨(l.val + 512 - 32) % 512, by omega⟩ : Fin 512) = ⟨l.val / 64 * 64 + (l.val + 32) % 64, by omega⟩ :=
      Fin.ext (by simp; omega)
    rw [if_neg h, if_neg h, h1]

/-- The rotary embedding of a block of 256 lanes. -/
def turn256 (y C S : FVec Ideal S512x256 .f32) : FVec Ideal S512x256 .f32 :=
  addf (mulf y C) (mulf (select (cmpi .slt (andi (iota .tc S512x256 32 [1] iota_S512x256_d1_w32) (broadcast S512x256 63#32))
    (broadcast S512x256 32#32)) (dynamicRotate 1 224#32 none y rotates_S512x256_d1)
    (dynamicRotate 1 32#32 none y rotates_S512x256_d1)) S)

/-- The rotary embedding of a block of 256 lanes at an entry. -/
theorem turn256_at (y C S : FVec Ideal S512x256 .f32) (θ : Fin 32 → EReal) (r : Fin 512) (l : Fin 256)
    (hC : C (ix2 r l) = Ideal.cos (θ ⟨l.val % 32, by omega⟩))
    (hS : S (ix2 r l) = if l.val % 64 < 32 then -Ideal.sin (θ ⟨l.val % 32, by omega⟩) else Ideal.sin (θ ⟨l.val % 32, by omega⟩)) :
    turn256 y C S (ix2 r l) = embedded (fun d => y (ix2 r ⟨l.val / 64 * 64 + d.val, by omega⟩)) θ ⟨l.val % 64, by omega⟩ := by
  have h0 : (⟨l.val / 64 * 64 + l.val % 64, by omega⟩ : Fin 256) = l := Fin.ext (by simp; omega)
  rw [embedded_eq _ _ l.val, h0]
  pointwise [turn256]
  rw [select_half l.val (by omega), hC, hS]
  by_cases h : l.val % 64 < 32
  · have h1 : (⟨(l.val + 256 - 224) % 256, by omega⟩ : Fin 256) = ⟨l.val / 64 * 64 + (l.val + 32) % 64, by omega⟩ :=
      Fin.ext (by simp; omega)
    rw [if_pos h, if_pos h, h1]
  · have h1 : (⟨(l.val + 256 - 32) % 256, by omega⟩ : Fin 256) = ⟨l.val / 64 * 64 + (l.val + 32) % 64, by omega⟩ :=
      Fin.ext (by simp; omega)
    rw [if_neg h, if_neg h, h1]

/-- The rotary embedding of a block of 128 lanes. -/
def turn128 (y C S : FVec Ideal S512x128 .f32) : FVec Ideal S512x128 .f32 :=
  addf (mulf y C) (mulf (select (cmpi .slt (andi (iota .tc S512x128 32 [1] iota_S512x128_d1_w32) (broadcast S512x128 63#32))
    (broadcast S512x128 32#32)) (dynamicRotate 1 96#32 none y rotates_S512x128_d1)
    (dynamicRotate 1 32#32 none y rotates_S512x128_d1)) S)

/-- The rotary embedding of a block of 128 lanes at an entry. -/
theorem turn128_at (y C S : FVec Ideal S512x128 .f32) (θ : Fin 32 → EReal) (r : Fin 512) (l : Fin 128)
    (hC : C (ix2 r l) = Ideal.cos (θ ⟨l.val % 32, by omega⟩))
    (hS : S (ix2 r l) = if l.val % 64 < 32 then -Ideal.sin (θ ⟨l.val % 32, by omega⟩) else Ideal.sin (θ ⟨l.val % 32, by omega⟩)) :
    turn128 y C S (ix2 r l) = embedded (fun d => y (ix2 r ⟨l.val / 64 * 64 + d.val, by omega⟩)) θ ⟨l.val % 64, by omega⟩ := by
  have h0 : (⟨l.val / 64 * 64 + l.val % 64, by omega⟩ : Fin 128) = l := Fin.ext (by simp; omega)
  rw [embedded_eq _ _ l.val, h0]
  pointwise [turn128]
  rw [select_half l.val (by omega), hC, hS]
  by_cases h : l.val % 64 < 32
  · have h1 : (⟨(l.val + 128 - 96) % 128, by omega⟩ : Fin 128) = ⟨l.val / 64 * 64 + (l.val + 32) % 64, by omega⟩ :=
      Fin.ext (by simp; omega)
    rw [if_pos h, if_pos h, h1]
  · have h1 : (⟨(l.val + 128 - 32) % 128, by omega⟩ : Fin 128) = ⟨l.val / 64 * 64 + (l.val + 32) % 64, by omega⟩ :=
      Fin.ext (by simp; omega)
    rw [if_neg h, if_neg h, h1]

/-- The cosines, repeated four times over a block's lanes. -/
theorem cosines_at (c : FVec Ideal S512x128 .f32) (r l : Fin 512) :
    k0_pay7 (F := Ideal) c (ix2 r l) = c (ix2 r ⟨l.val % 128, by omega⟩) := by
  pointwise [k0_pay7, k0_pay5]
  split_ifs <;> exact congrArg (fun z => c (ix2 r z)) (Fin.ext (by simp; omega))

/-- The signed sines, repeated four times over a block's lanes. -/
theorem sines_at (c : FVec Ideal S512x128 .f32) (r l : Fin 512) :
    k0_pay8 (F := Ideal) c (ix2 r l) = c (ix2 r ⟨l.val % 128, by omega⟩) := by
  pointwise [k0_pay8, k0_pay6]
  split_ifs <;> exact congrArg (fun z => c (ix2 r z)) (Fin.ext (by simp; omega))

/-- The norm of eight heads of a block: the sums of squares by one table, their roots spread by the other. -/
def norm512 (a : FVec Ideal S512x512 .f32) (g : FVec Ideal S1x512 .f32) (hs : FVec Ideal S512x128 .f32)
    (he : FVec Ideal S128x512 .f32) : FVec Ideal S512x512 .f32 :=
  mulf (mulf a (matmul dot_S512x128_S128x512_S512x512_1_0_0_1_n_n (some .fp32)
    (rsqrt (addf (mulf (matmul dot_S512x512_S512x128_S512x128_1_0_0_1_n_n (some .fp32) (mulf a a)
      (shapeCast S512x128 hs shapeCasts_S512x128_S512x128) (constant S512x128 .f32 0x00000000#32))
      (broadcast S512x128 (Scalar.ofBits .f32 0x3C800000#32))) (broadcast S512x128 (Scalar.ofBits .f32 0x358637BD#32))))
    (shapeCast S128x512 he shapeCasts_S128x512_S128x512) (constant S512x512 .f32 0x00000000#32)))
    (broadcastTo S512x512 (shapeCast S1x512 g shapeCasts_S1x512_S1x512) broadcasts_S1x512_S512x512)

/-- The norm of eight heads of a block at an entry. -/
theorem norm512_at (a : FVec Ideal S512x512 .f32) (g : FVec Ideal S1x512 .f32) (hs : FVec Ideal S512x128 .f32)
    (he : FVec Ideal S128x512 .f32) (γ : FVec Ideal S64 .f32)
    (hg : ∀ l : Fin 512, g (ix2 0 l) = γ (ix1 ⟨l.val % 64, by omega⟩))
    (hhs : ∀ (k : Fin 512) (j : Fin 128), hs (ix2 k j) = if k.val / 64 = j.val then (1 : EReal) else 0)
    (hhe : ∀ (j : Fin 128) (l : Fin 512), he (ix2 j l) = if l.val / 64 = j.val then (1 : EReal) else 0)
    (r : Fin 512) (h : Fin 8) (d : Fin 64) :
    norm512 a g hs he (ix2 r ⟨h.val * 64 + d.val, by omega⟩)
      = headNormed (fun e => a (ix2 r ⟨h.val * 64 + e.val, by omega⟩)) (fun e => γ (ix1 e)) d := by
  have h1 : (h.val * 64 + d.val) / 64 = h.val := by omega
  have h2 : (⟨(h.val * 64 + d.val) % 64, by omega⟩ : Fin 64) = d := Fin.ext (by simp)
  unfold headNormed
  pointwise [norm512, hhs, hhe]
  rw [hg]
  simp only [h1, h2]
  rw [sum_lane _ h.val (by omega), sum_head (fun k => a (ix2 r k) * a (ix2 r k)) h, sixtyFourth]

section Blocks
variable (V : FVec Ideal S512x1536 .f32) (cs sn : FVec Ideal S512x128 .f32) (g : FVec Ideal S1x512 .f32)
  (hs : FVec Ideal S512x128 .f32) (he : FVec Ideal S128x512 .f32) (γ : FVec Ideal S64 .f32) (θ : Fin 32 → EReal)
  (p : Fin 5956 → EReal) (r : Fin 512)
  (hV : ∀ n : Fin 1536, V (ix2 r n) = p ⟨n.val, by omega⟩)
  (hc : ∀ l : Fin 128, cs (ix2 r l) = Ideal.cos (θ ⟨l.val % 32, by omega⟩))
  (hs' : ∀ l : Fin 128, sn (ix2 r l)
    = if l.val % 64 < 32 then -Ideal.sin (θ ⟨l.val % 32, by omega⟩) else Ideal.sin (θ ⟨l.val % 32, by omega⟩))
  (hg : ∀ l : Fin 512, g (ix2 0 l) = γ (ix1 ⟨l.val % 64, by omega⟩))
  (hhs : ∀ (k : Fin 512) (j : Fin 128), hs (ix2 k j) = if k.val / 64 = j.val then (1 : EReal) else 0)
  (hhe : ∀ (j : Fin 128) (l : Fin 512), he (ix2 j l) = if l.val / 64 = j.val then (1 : EReal) else 0)

include hc in
/-- The cosine of a lane of the wide block. -/
theorem cosine_at (l : Fin 512) : k0_pay7 (F := Ideal) cs (ix2 r l) = Ideal.cos (θ ⟨l.val % 32, by omega⟩) := by
  have h : l.val % 128 % 32 = l.val % 32 := by omega
  rw [cosines_at, hc]
  simp only [h]

include hs' in
/-- The signed sine of a lane of the wide block. -/
theorem sine_at (l : Fin 512) : k0_pay8 (F := Ideal) sn (ix2 r l)
    = if l.val % 64 < 32 then -Ideal.sin (θ ⟨l.val % 32, by omega⟩) else Ideal.sin (θ ⟨l.val % 32, by omega⟩) := by
  have h : l.val % 128 % 32 = l.val % 32 := by omega
  have h' : l.val % 128 % 64 = l.val % 64 := by omega
  rw [sines_at, hs']
  simp only [h, h']

include hV hc hs' hg hhs hhe

/-- The keys' block. -/
theorem keys_block (l : Fin 512) :
    k0_pay17 (F := Ideal) (k0_pay7 cs) (k0_pay8 sn) (k0_pay14 V g hs he) k0_pay15 32#32 (ix2 r l)
      = embedded (headNormed (fun d => p ⟨512 + (l.val / 64 * 64 + d.val), by omega⟩) (fun d => γ (ix1 d))) θ
          ⟨l.val % 64, by omega⟩ := by
  have e : k0_pay17 (F := Ideal) (k0_pay7 cs) (k0_pay8 sn) (k0_pay14 V g hs he) k0_pay15 32#32
      = truncf .bf16 (turn512 (norm512 (extractStridedSlice S512x512 ![0, 512] V slices_S512x1536_o0_512_S512x512) g hs he)
          (k0_pay7 cs) (k0_pay8 sn)) bitsLt_bf16_f32 := rfl
  have ha : ∀ n : Fin 512, extractStridedSlice S512x512 ![0, 512] V slices_S512x1536_o0_512_S512x512 (ix2 r n)
      = p ⟨512 + n.val, by omega⟩ := by
    intro n
    pointwise [hV]
  rw [e, truncf_apply]
  generalize extractStridedSlice S512x512 ![0, 512] V slices_S512x1536_o0_512_S512x512 = a at ha ⊢
  refine (turn512_at _ _ _ θ r l (cosine_at cs θ r hc l) (sine_at sn θ r hs' l)).trans ?_
  congr 1
  funext d
  rw [norm512_at a g hs he γ hg hhs hhe r ⟨l.val / 64, by omega⟩ d]
  simp only [ha]

omit hV in
/-- The queries' block. -/
theorem queries_block (x : FVec Ideal S512x1024 .f32) (gx : FVec Ideal S1x1024 .f32) (wa : FVec Ideal S1024x1536 .bf16)
    (hV : ∀ n : Fin 1536, k0_pay9 (F := Ideal) x gx wa (ix2 r n) = p ⟨n.val, by omega⟩) (l : Fin 512) :
    k0_pay16 (F := Ideal) (k0_pay13 (k0_pay7 cs) (k0_pay8 sn) (k0_pay10 x gx wa) (k0_pay11 g) (k0_pay12 x gx wa hs) he) (ix2 r l)
      = embedded (headNormed (fun d => p ⟨l.val / 64 * 64 + d.val, by omega⟩) (fun d => γ (ix1 d))) θ
          ⟨l.val % 64, by omega⟩ * Ideal.ofBits .f32 0x3E000000#32 := by
  have e : k0_pay16 (F := Ideal) (k0_pay13 (k0_pay7 cs) (k0_pay8 sn) (k0_pay10 x gx wa) (k0_pay11 g) (k0_pay12 x gx wa hs) he)
      = truncf .bf16 (mulf (turn512 (norm512 (k0_pay10 x gx wa) g hs he) (k0_pay7 cs) (k0_pay8 sn))
          (broadcast S512x512 (Scalar.ofBits .f32 0x3E000000#32))) bitsLt_bf16_f32 := rfl
  have ha : ∀ n : Fin 512, k0_pay10 (F := Ideal) x gx wa (ix2 r n) = p ⟨n.val, by omega⟩ := by
    intro n
    unfold k0_pay10
    generalize k0_pay9 (F := Ideal) x gx wa = V at hV ⊢
    pointwise [hV]
  rw [e, truncf_apply]
  generalize k0_pay10 (F := Ideal) x gx wa = a at ha ⊢
  have ht := turn512_at (norm512 a g hs he) _ _ θ r l (cosine_at cs θ r hc l) (sine_at sn θ r hs' l)
  generalize turn512 (norm512 a g hs he) _ _ = T at ht ⊢
  pointwise [ht]
  congr 2
  funext d
  rw [norm512_at a g hs he γ hg hhs hhe r ⟨l.val / 64, by omega⟩ d]
  simp only [ha]

omit hc hs' hg hhs hhe in
/-- The values' block. -/
theorem values_block (l : Fin 512) : k0_pay18 (F := Ideal) V (ix2 r l) = p ⟨1024 + l.val, by omega⟩ := by
  pointwise [k0_pay18, hV]

omit hV hg hhs hhe in
/-- The index queries' block. -/
theorem indexQueries_block (y : FVec Ideal S512x1024 .f32) (wi : FVec Ideal S1024x384 .f32)
    (hI : ∀ n : Fin 256, k0_pay19 (F := Ideal) y wi (ix2 r ⟨n.val, by omega⟩) = p ⟨1536 + n.val, by omega⟩) (l : Fin 256) :
    k0_pay20 (F := Ideal) y (k0_pay7 cs) (k0_pay8 sn) wi (ix2 r l)
      = embedded (fun d => p ⟨1536 + (l.val / 64 * 64 + d.val), by omega⟩) θ ⟨l.val % 64, by omega⟩
          * Ideal.ofBits .f32 0x3E000000#32 := by
  have e : k0_pay20 (F := Ideal) y (k0_pay7 cs) (k0_pay8 sn) wi
      = mulf (turn256 (extractStridedSlice S512x256 ![0, 0] (k0_pay19 y wi) slices_S512x384_o0_0_S512x256)
          (extractStridedSlice S512x256 ![0, 0] (k0_pay7 cs) slices_S512x512_o0_0_S512x256)
          (extractStridedSlice S512x256 ![0, 0] (k0_pay8 sn) slices_S512x512_o0_0_S512x256))
          (broadcast S512x256 (Scalar.ofBits .f32 0x3E000000#32)) := rfl
  have hC := cosine_at cs θ r hc
  have hS := sine_at sn θ r hs'
  rw [e]
  generalize k0_pay7 (F := Ideal) cs = C at hC ⊢
  generalize k0_pay8 (F := Ideal) sn = S at hS ⊢
  generalize k0_pay19 (F := Ideal) y wi = I at hI ⊢
  have ht := turn256_at (extractStridedSlice S512x256 ![0, 0] I slices_S512x384_o0_0_S512x256)
    (extractStridedSlice S512x256 ![0, 0] C slices_S512x512_o0_0_S512x256)
    (extractStridedSlice S512x256 ![0, 0] S slices_S512x512_o0_0_S512x256) θ r l (by pointwise [hC]) (by pointwise [hS])
  generalize turn256 _ _ _ = T at ht ⊢
  pointwise [ht]
  congr 2
  funext d
  have hd := hI ⟨l.val / 64 * 64 + d.val, by omega⟩
  pointwise [hd]

omit hV hg hhs hhe in
/-- The index keys' and weights' block. -/
theorem indexKeys_block (y : FVec Ideal S512x1024 .f32) (wi : FVec Ideal S1024x384 .f32)
    (hI : ∀ n : Fin 128, k0_pay19 (F := Ideal) y wi (ix2 r ⟨256 + n.val, by omega⟩)
      = if h : n.val < 68 then p ⟨1792 + n.val, by omega⟩ else 0) (l : Fin 128) :
    k0_pay1 (F := Ideal) (k0_pay5 cs) (k0_pay6 sn) (k0_pay21 y wi) (iota .tc S512x128 32 [1] iota_S512x128_d1_w32) 64#32 (ix2 r l)
      = if h : l.val < 64 then embedded (fun d => p ⟨1792 + d.val, by omega⟩) θ ⟨l.val, h⟩
        else if h : l.val - 64 < 4 then p ⟨1856 + (l.val - 64), by omega⟩ * Ideal.ofBits .f32 0x3F000000#32 else 0 := by
  have e : k0_pay1 (F := Ideal) (k0_pay5 cs) (k0_pay6 sn) (k0_pay21 y wi) (iota .tc S512x128 32 [1] iota_S512x128_d1_w32) 64#32
      = select (cmpi .slt (iota .tc S512x128 32 [1] iota_S512x128_d1_w32) (broadcast S512x128 64#32))
          (turn128 (k0_pay21 y wi) (k0_pay5 cs) (k0_pay6 sn))
          (mulf (k0_pay21 y wi) (broadcast S512x128 (Scalar.ofBits .f32 0x3F000000#32))) := rfl
  have ha : ∀ n : Fin 128, k0_pay21 (F := Ideal) y wi (ix2 r n) = if h : n.val < 68 then p ⟨1792 + n.val, by omega⟩ else 0 := by
    intro n
    rw [← hI]
    unfold k0_pay21
    generalize k0_pay19 (F := Ideal) y wi = I
    pointwise
  have hC : k0_pay5 (F := Ideal) cs (ix2 r l) = Ideal.cos (θ ⟨l.val % 32, by omega⟩) := by
    pointwise [k0_pay5, hc]
  have hS : k0_pay6 (F := Ideal) sn (ix2 r l)
      = if l.val % 64 < 32 then -Ideal.sin (θ ⟨l.val % 32, by omega⟩) else Ideal.sin (θ ⟨l.val % 32, by omega⟩) := by
    pointwise [k0_pay6, hs']
  rw [e]
  generalize k0_pay21 (F := Ideal) y wi = a at ha ⊢
  have ht := turn128_at a _ _ θ r l hC hS
  generalize turn128 a _ _ = T at ht ⊢
  pointwise [ht]
  rw [select_below l.val (by omega)]
  by_cases h : l.val < 64
  · have h0 : l.val / 64 * 64 = 0 := by omega
    have h1 : l.val % 64 = l.val := by omega
    rw [if_pos h, dif_pos h]
    simp only [h1]
    congr 1
    funext d
    rw [ha, dif_pos (by simp; omega)]
    simp only [h0, zero_add]
  · rw [if_neg h, dif_neg h, ha]
    by_cases h4 : l.val - 64 < 4
    · have h5 : 1792 + l.val = 1856 + (l.val - 64) := by omega
      rw [dif_pos (by omega), dif_pos h4]
      simp only [h5]
    · rw [dif_neg (by omega), dif_neg h4, zero_mul]

end Blocks

end Cert.MixInIdeal.Value

end
-- ==== Proof.MixRow.lean ====
/- A row of the projections' kernel: where a point's blocks are the reference's rows, weights and tables, so are its results. -/
module

public import proofs.«01_k».proof.Proof.MixBody

@[expose] public section

set_option maxRecDepth 16384

noncomputable section

open Idealize.ShloMosaic Idealize.ShloMosaic.TcCoe Idealize.SL.Sem

namespace Cert.MixInIdeal.Value
open Cert.MixInIdeal Cert.MixInIdeal.Gen
open Cert.MixInReferenceIdeal.Value

/-- What a row `r` of a point's blocks holds, against the reference's row `R`. -/
structure Reads (x : FVec Ideal S512x1024 .f32) (g : FVec Ideal S1x1024 .f32) (wa : FVec Ideal S1024x1536 .bf16)
    (wi : FVec Ideal S1024x384 .f32) (wh : FVec Ideal S1024x2048 .bf16) (qn kn : FVec Ideal S1x512 .f32)
    (cs sn hs : FVec Ideal S512x128 .f32) (he : FVec Ideal S128x512 .f32)
    (X : FVec Ideal S2x8192x1024 .f32) (G : FVec Ideal S1024 .f32) (W : FVec Ideal S1024x5956 .f32)
    (A : FVec Ideal S2x8192x32 .f32) (Q K : FVec Ideal S64 .f32) (r : Fin 512) (R : Fin 16384) : Prop where
  rows : ∀ k : Fin 1024, x (ix2 r k) = X (ix3 ⟨R.val / 8192, by omega⟩ ⟨R.val % 8192, by omega⟩ k)
  gain : ∀ k : Fin 1024, g (ix2 0 k) = G (ix1 k)
  attention : ∀ (k : Fin 1024) (n : Fin 1536), wa (ix2 k n) = W (ix2 k ⟨n.val, by omega⟩)
  indexer : ∀ (k : Fin 1024) (n : Fin 384),
    wi (ix2 k n) = if h : n.val < 324 then W (ix2 k ⟨1536 + n.val, by omega⟩) else (0 : EReal)
  recurrence : ∀ (k : Fin 1024) (n : Fin 2048), wh (ix2 k n) = W (ix2 k ⟨1860 + n.val, by omega⟩)
  queryGain : ∀ l : Fin 512, qn (ix2 0 l) = Q (ix1 ⟨l.val % 64, by omega⟩)
  keyGain : ∀ l : Fin 512, kn (ix2 0 l) = K (ix1 ⟨l.val % 64, by omega⟩)
  cosine : ∀ l : Fin 128, cs (ix2 r l) = Ideal.cos (anglesOf A R ⟨l.val % 32, by omega⟩)
  sine : ∀ l : Fin 128, sn (ix2 r l) = if l.val % 64 < 32 then -Ideal.sin (anglesOf A R ⟨l.val % 32, by omega⟩)
    else Ideal.sin (anglesOf A R ⟨l.val % 32, by omega⟩)
  heads : ∀ (k : Fin 512) (j : Fin 128), hs (ix2 k j) = if k.val / 64 = j.val then (1 : EReal) else 0
  lanes : ∀ (j : Fin 128) (l : Fin 512), he (ix2 j l) = if l.val / 64 = j.val then (1 : EReal) else 0

variable {x : FVec Ideal S512x1024 .f32} {g : FVec Ideal S1x1024 .f32} {wa : FVec Ideal S1024x1536 .bf16}
  {wi : FVec Ideal S1024x384 .f32} {wh : FVec Ideal S1024x2048 .bf16} {qn kn : FVec Ideal S1x512 .f32}
  {cs sn hs : FVec Ideal S512x128 .f32} {he : FVec Ideal S128x512 .f32}
  {X : FVec Ideal S2x8192x1024 .f32} {G : FVec Ideal S1024 .f32} {W : FVec Ideal S1024x5956 .f32}
  {A : FVec Ideal S2x8192x32 .f32} {Q K : FVec Ideal S64 .f32} {r : Fin 512} {R : Fin 16384}
  (h : Reads x g wa wi wh qn kn cs sn hs he X G W A Q K r R)

include h

/-- The queries of a row. -/
theorem queries_row (l : Fin 512) :
    k0_pay16 (F := Ideal) (k0_pay13 (k0_pay7 cs) (k0_pay8 sn) (k0_pay10 x g wa) (k0_pay11 qn) (k0_pay12 x g wa hs) he) (ix2 r l)
      = queries (proj X G W) A Q (ix2 R l) := by
  rw [queries_at]
  exact queries_block cs sn qn hs he Q (anglesOf A R) (rowOf (proj X G W) R) r h.cosine h.sine h.queryGain h.heads h.lanes
    x g wa (attention_at x g wa X G W r R h.rows h.gain h.attention) l

/-- The keys of a row. -/
theorem keys_row (l : Fin 512) :
    k0_pay17 (F := Ideal) (k0_pay7 cs) (k0_pay8 sn) (k0_pay14 (k0_pay9 x g wa) kn hs he) k0_pay15 32#32 (ix2 r l)
      = keys (proj X G W) A K (ix2 R l) := by
  rw [keys_at]
  exact keys_block (k0_pay9 x g wa) cs sn kn hs he K (anglesOf A R) (rowOf (proj X G W) R) r
    (attention_at x g wa X G W r R h.rows h.gain h.attention) h.cosine h.sine h.keyGain h.heads h.lanes l

/-- The values of a row. -/
theorem values_row (l : Fin 512) :
    k0_pay18 (F := Ideal) (k0_pay9 x g wa) (ix2 r l) = values (proj X G W) (ix2 R l) := by
  rw [values_at]
  exact values_block (k0_pay9 x g wa) (rowOf (proj X G W) R) r
    (attention_at x g wa X G W r R h.rows h.gain h.attention) l

/-- The indexer's columns of a row, the padding zero. -/
theorem indexer_row (n : Fin 384) : k0_pay19 (F := Ideal) (k0_pay3 x g) wi (ix2 r n)
    = if hn : n.val < 324 then rowOf (proj X G W) R ⟨1536 + n.val, by omega⟩ else (0 : EReal) := by
  by_cases hn : n.val < 324
  · rw [dif_pos hn]
    exact indexer_at x g wi X G W r R h.rows h.gain n _ fun k => by rw [h.indexer, dif_pos hn]
  · rw [dif_neg hn]
    exact padding_at wi r (k0_pay3 x g) n fun k => by rw [h.indexer, dif_neg hn]

/-- The index queries of a row. -/
theorem indexQueries_row (l : Fin 256) :
    k0_pay20 (F := Ideal) (k0_pay3 x g) (k0_pay7 cs) (k0_pay8 sn) wi (ix2 r l) = indexQueries (proj X G W) A (ix2 R l) := by
  rw [indexQueries_at]
  exact indexQueries_block cs sn (anglesOf A R) (rowOf (proj X G W) R) r h.cosine h.sine (k0_pay3 x g) wi
    (fun n => by rw [indexer_row h, dif_pos (by simp; omega)]) l

/-- The index keys and weights of a row. -/
theorem indexKeys_row (l : Fin 128) :
    k0_pay1 (F := Ideal) (k0_pay5 cs) (k0_pay6 sn) (k0_pay21 (k0_pay3 x g) wi) (iota .tc S512x128 32 [1] iota_S512x128_d1_w32) 64#32
      (ix2 r l) = indexKeys (proj X G W) A (ix2 R l) := by
  rw [indexKeys_at]
  refine indexKeys_block cs sn (anglesOf A R) (rowOf (proj X G W) R) r h.cosine h.sine (k0_pay3 x g) wi (fun n => ?_) l
  rw [indexer_row h]
  by_cases hn : n.val < 68
  · have e : 1536 + (256 + n.val) = 1792 + n.val := by omega
    rw [dif_pos hn, dif_pos (show 256 + n.val < 324 by omega)]
    simp only [e]
  · rw [dif_neg hn, dif_neg (show ¬256 + n.val < 324 by omega)]

/-- The recurrence's columns of a row. -/
theorem recurrence_row (l : Fin 2048) :
    k0_pay2 (F := Ideal) (k0_pay4 x g) wh (ix2 r l) = recurrence (proj X G W) (ix2 R l) := by
  rw [Cert.MixInReferenceIdeal.Value.recurrence_at]
  exact Cert.MixInIdeal.Value.recurrence_at x g wh X G W r R h.rows h.gain h.recurrence l

end Cert.MixInIdeal.Value

end
-- ==== Proof.MixHost.lean ====
/- What the host hands the projections' kernel, entry by entry: the rows, the weights, the heads' tables. -/
module

public import proofs.«01_k».proof.Proof.Gen.MixInIdeal.Value
public import Idealize.ShloMosaic.Lib.WordCmp
public import Idealize.ShloMosaic.Lib.Pointwise

@[expose] public section

set_option maxRecDepth 65536

noncomputable section

open Idealize.ShloMosaic Idealize.ShloMosaic.TcCoe Idealize.ShloMosaic.Tactic Idealize.SL.Sem

namespace Cert.MixInIdeal.Host
open Cert.MixInIdeal Cert.MixInIdeal.Gen

/-- The quotient of a lane by 64 as the host computes it on words. -/
def headWord (k : ℕ) : BitVec 32 :=
  Scalar.select (IntOp.andi
    (IntOp.cmpi .ne (w := 32) (if BitVec.ofNat 32 k = 0 then 0 else if (BitVec.ofNat 32 k).msb = true then -1 else 1)
      (if (64#32 : BitVec 32) = 0 then 0 else if (64#32 : BitVec 32).msb = true then -1 else 1))
    (IntOp.cmpi .ne (IntOp.remsi .host (BitVec.ofNat 32 k) 64#32) 0#32))
    (IntOp.subi (IntOp.divsi .host (BitVec.ofNat 32 k) 64#32) 1#32) (IntOp.divsi .host (BitVec.ofNat 32 k) 64#32)

/-- It is the quotient. -/
theorem headWord_eq : ∀ k : Fin 512, headWord k.val = BitVec.ofNat 32 (k.val / 64) := by decide +kernel

variable (m : (ℓ : Loc nD τ sig) → Buf (Elt Ideal) ℓ) (c : Dev nD)

/-- The input rows. -/
theorem rows_at (R : Fin 16384) (k : Fin 1024) : V m c main_v34 (ix2 R k)
    = (m ((c.tc : Thread nD τ).loc main_arg0) : FVec Ideal S2x8192x1024 .f32) (ix3 ⟨R.val / 8192, by omega⟩ ⟨R.val % 8192, by omega⟩ k) := by
  simp only [V, hostOps0, hostOps0_1, hostOps0_2, hostOps0_3, hostOps0_4, List.flatten_cons, List.flatten_nil, List.append_nil,
    List.cons_append, List.nil_append]
  entry_read
  generalize m ((c.tc : Thread nD τ).loc main_arg0) = x
  pointwise

/-- The input norm's weights. -/
theorem gain_at (k : Fin 1024) :
    V m c main_v35 (ix2 0 k) = (m ((c.tc : Thread nD τ).loc main_arg2) : FVec Ideal S1024 .f32) (ix1 k) := by
  simp only [V, hostOps0, hostOps0_1, hostOps0_2, hostOps0_3, hostOps0_4, List.flatten_cons, List.flatten_nil, List.append_nil,
    List.cons_append, List.nil_append]
  entry_read
  generalize m ((c.tc : Thread nD τ).loc main_arg2) = x
  pointwise

/-- The attention's columns of the weights. -/
theorem attention_weights (k : Fin 1024) (n : Fin 1536) : V m c main_v37 (ix2 k n)
    = (m ((c.tc : Thread nD τ).loc main_arg3) : FVec Ideal S1024x5956 .f32) (ix2 k ⟨n.val, by omega⟩) := by
  simp only [V, hostOps0, hostOps0_1, hostOps0_2, hostOps0_3, hostOps0_4, List.flatten_cons, List.flatten_nil, List.append_nil,
    List.cons_append, List.nil_append]
  entry_read
  generalize m ((c.tc : Thread nD τ).loc main_arg3) = x
  pointwise

/-- The recurrence's columns of the weights. -/
theorem recurrence_weights (k : Fin 1024) (n : Fin 2048) : V m c main_v41 (ix2 k n)
    = (m ((c.tc : Thread nD τ).loc main_arg3) : FVec Ideal S1024x5956 .f32) (ix2 k ⟨1860 + n.val, by omega⟩) := by
  simp only [V, hostOps0, hostOps0_1, hostOps0_2, hostOps0_3, hostOps0_4, List.flatten_cons, List.flatten_nil, List.append_nil,
    List.cons_append, List.nil_append]
  entry_read
  generalize m ((c.tc : Thread nD τ).loc main_arg3) = x
  pointwise

/-- The indexer's columns of the weights, and the zeros after them. -/
theorem indexer_weights (k : Fin 1024) (n : Fin 384) : V m c main_v39 (ix2 k n)
    = if h : n.val < 324 then (m ((c.tc : Thread nD τ).loc main_arg3) : FVec Ideal S1024x5956 .f32) (ix2 k ⟨1536 + n.val, by omega⟩)
      else (0 : EReal) := by
  simp only [V, hostOps0, hostOps0_1, hostOps0_2, hostOps0_3, hostOps0_4, List.flatten_cons, List.flatten_nil, List.append_nil,
    List.cons_append, List.nil_append]
  entry_read
  simp -implicitDefEqProofs only [StableHlo.TRef.toBuf, StableHlo.TRef.ofBuf, cast_cast, cast_eq]
  generalize m ((c.tc : Thread nD τ).loc main_arg3) = x
  pointwise
  rw [show (FloatOps.sitofp .f32 0#32 : Ideal .f32) = 0 by simp [FloatOps.sitofp]]

/-- The query norm's weights, once per head. -/
theorem query_gain (l : Fin 512) : V m c main_v45 (ix2 0 l)
    = (m ((c.tc : Thread nD τ).loc main_arg4) : FVec Ideal S64 .f32) (ix1 ⟨l.val % 64, by omega⟩) := by
  simp only [V, hostOps0, hostOps0_1, hostOps0_2, hostOps0_3, hostOps0_4, List.flatten_cons, List.flatten_nil, List.append_nil,
    List.cons_append, List.nil_append]
  entry_read
  generalize m ((c.tc : Thread nD τ).loc main_arg4) = x
  pointwise

/-- The key norm's weights, once per head. -/
theorem key_gain (l : Fin 512) : V m c main_v49 (ix2 0 l)
    = (m ((c.tc : Thread nD τ).loc main_arg5) : FVec Ideal S64 .f32) (ix1 ⟨l.val % 64, by omega⟩) := by
  simp only [V, hostOps0, hostOps0_1, hostOps0_2, hostOps0_3, hostOps0_4, List.flatten_cons, List.flatten_nil, List.append_nil,
    List.cons_append, List.nil_append]
  entry_read
  generalize m ((c.tc : Thread nD τ).loc main_arg5) = x
  pointwise

/-- The table that marks the head of each lane, lanes first. -/
theorem heads_at (k : Fin 512) (j : Fin 128) : V m c main_v32 (ix2 k j) = if k.val / 64 = j.val then (1 : EReal) else 0 := by
  simp only [V, hostOps0, hostOps0_1, hostOps0_2, hostOps0_3, hostOps0_4, List.flatten_cons, List.flatten_nil, List.append_nil,
    List.cons_append, List.nil_append]
  entry_read
  simp -implicitDefEqProofs only [StableHlo.TRef.toBuf, StableHlo.TRef.ofBuf, cast_cast, cast_eq]
  pointwise
  generalize hw : (Scalar.select _ _ _ : BitVec 32) = w
  obtain rfl : w = BitVec.ofNat 32 (k.val / 64) := hw.symm.trans (headWord_eq k)
  rw [WordCmp.cmpi_eq_ofNat (by omega) (by omega)]
  by_cases h : k.val / 64 = j.val
  · simp [h, FloatOps.uitofp]
  · simp [h, FloatOps.uitofp]

/-- The table that marks the head of each lane, heads first. -/
theorem lanes_at (j : Fin 128) (l : Fin 512) : V m c main_v33 (ix2 j l) = if l.val / 64 = j.val then (1 : EReal) else 0 := by
  rw [← heads_at m c l j]
  simp only [V, hostOps0, hostOps0_1, hostOps0_2, hostOps0_3, hostOps0_4, List.flatten_cons, List.flatten_nil, List.append_nil,
    List.cons_append, List.nil_append]
  entry_read
  pointwise

end Cert.MixInIdeal.Host

end
-- ==== Proof.MixTables.lean ====
/- What the host hands the projections' kernel, entry by entry: the rotary tables. -/
module

public import proofs.«01_k».proof.Proof.Gen.MixInIdeal.Value
public import proofs.«01_k».proof.Proof.MixReference
public import Idealize.ShloMosaic.Lib.WordCmp
public import Idealize.ShloMosaic.Lib.Pointwise

@[expose] public section

set_option maxRecDepth 65536

noncomputable section

open Idealize.ShloMosaic Idealize.ShloMosaic.TcCoe Idealize.ShloMosaic.Tactic Idealize.SL.Sem

namespace Cert.MixInIdeal.Host
open Cert.MixInIdeal Cert.MixInIdeal.Gen
open Cert.MixInReferenceIdeal.Value (angles)

variable (m : (ℓ : Loc nD τ sig) → Buf (Elt Ideal) ℓ) (c : Dev nD)

/-- The rotary angles of the positions the program reads. -/
abbrev angleIn : FVec Ideal S2x8192x32 .f32 := angles (m ((c.tc : Thread nD τ).loc main_arg1))

/-- The host's first lines, where the angles, their cosines and sines are. -/
abbrev headOps (n : ℕ) : List (HloOp τ sig (Elt Ideal)) := hostOps0.take n
/-- The host's lines after them. -/
abbrev tailOps (n : ℕ) : List (HloOp τ sig (Elt Ideal)) := hostOps0.drop n ++ (hostOps0_1 ++ (hostOps0_2 ++ (hostOps0_3 ++ hostOps0_4)))

/-- The cosines after the first lines. -/
theorem head_cos : StableHlo.after (headOps 22) (fun b => m (c, b)) (Proc.devRef .tc main_v16) = Host.cos (angleIn m c) := by
  simp only [headOps, hostOps0, List.take_succ_cons, List.take_zero]
  entry_read
  rfl

/-- The sines after the first lines. -/
theorem head_sin : StableHlo.after (headOps 26) (fun b => m (c, b)) (Proc.devRef .tc main_v17) = Host.sin (angleIn m c) := by
  simp only [headOps, hostOps0, List.take_succ_cons, List.take_zero]
  entry_read
  rfl

/-- The negated sines after the first lines. -/
theorem head_neg : StableHlo.after (headOps 26) (fun b => m (c, b)) (Proc.devRef .tc main_v20) = Host.negf (Host.sin (angleIn m c)) := by
  simp only [headOps, hostOps0, List.take_succ_cons, List.take_zero]
  entry_read
  rfl

/-- The negated sines after the first lines, a second time. -/
theorem head_neg' : StableHlo.after (headOps 26) (fun b => m (c, b)) (Proc.devRef .tc main_v21) = Host.negf (Host.sin (angleIn m c)) := by
  simp only [headOps, hostOps0, List.take_succ_cons, List.take_zero]
  entry_read
  rfl

/-- The host's lines in two parts. -/
theorem host_split (n : ℕ) (b : Ref sig .tc) : V m c b
    = StableHlo.after (tailOps n) (StableHlo.after (headOps n) (fun b => m (c, b))) (Proc.devRef .tc b) := by
  rw [← StableHlo.after_append, ← List.append_assoc, List.take_append_drop]
  rfl

/-- A table of four stretches of 32 lanes. -/
def tableOf (a b d e : FVec Ideal S2x8192x32 .f32) : FVec Ideal S16384x128 .f32 :=
  shapeCast S16384x128 (concatenate S2x8192x128 2 [⟨S2x8192x32, a⟩, ⟨S2x8192x32, b⟩, ⟨S2x8192x32, d⟩, ⟨S2x8192x32, e⟩]
    concatenates_S2x8192x32_S2x8192x32_S2x8192x32_S2x8192x32_S2x8192x128_d2) shapeCasts_S2x8192x128_S16384x128

/-- A table whose odd stretches are one array and whose even ones another, at an entry. -/
theorem tableOf_at (a b : FVec Ideal S2x8192x32 .f32) (R : Fin 16384) (l : Fin 128) : tableOf a b a b (ix2 R l)
    = if l.val % 64 < 32 then a (ix3 ⟨R.val / 8192, by omega⟩ ⟨R.val % 8192, by omega⟩ ⟨l.val % 32, by omega⟩)
      else b (ix3 ⟨R.val / 8192, by omega⟩ ⟨R.val % 8192, by omega⟩ ⟨l.val % 32, by omega⟩) := by
  pointwise [tableOf]
  have hl := l.isLt
  by_cases h1 : l.val < 32
  · have e : l.val % 32 = l.val := by omega
    rw [dif_pos h1, if_pos (show l.val % 64 < 32 by omega)]
    simp only [e]
  rw [dif_neg h1]
  by_cases h2 : l.val - 32 < 32
  · have e : l.val % 32 = l.val - 32 := by omega
    rw [dif_pos h2, if_neg (show ¬l.val % 64 < 32 by omega)]
    simp only [e]
  rw [dif_neg h2]
  by_cases h3 : l.val - 32 - 32 < 32
  · have e : l.val % 32 = l.val - 32 - 32 := by omega
    rw [dif_pos h3, if_pos (show l.val % 64 < 32 by omega)]
    simp only [e]
  · have e : l.val % 32 = l.val - 32 - 32 - 32 := by omega
    rw [dif_neg h3, if_neg (show ¬l.val % 64 < 32 by omega)]
    simp only [e]

/-- The cosines' table. -/
theorem cosine_table (R : Fin 16384) (l : Fin 128) : V m c main_v19 (ix2 R l)
    = Ideal.cos (angleIn m c (ix3 ⟨R.val / 8192, by omega⟩ ⟨R.val % 8192, by omega⟩ ⟨l.val % 32, by omega⟩)) := by
  rw [host_split m c 22]
  have h := head_cos m c
  generalize StableHlo.after (headOps 22) (fun b => m (c, b)) = σ at h ⊢
  generalize angleIn m c = A at h ⊢
  simp only [tailOps, hostOps0, hostOps0_1, hostOps0_2, hostOps0_3, hostOps0_4, List.drop_succ_cons, List.drop_zero,
    List.cons_append, List.nil_append]
  entry_read
  refine (show _ = tableOf (σ (Proc.devRef .tc main_v16)) (σ (Proc.devRef .tc main_v16)) (σ (Proc.devRef .tc main_v16))
    (σ (Proc.devRef .tc main_v16)) (ix2 R l) from rfl).trans ?_
  rw [h, tableOf_at, ite_self]
  rfl

/-- The signed sines' table. -/
theorem sine_table (R : Fin 16384) (l : Fin 128) : V m c main_v23 (ix2 R l)
    = if l.val % 64 < 32 then
        -Ideal.sin (angleIn m c (ix3 ⟨R.val / 8192, by omega⟩ ⟨R.val % 8192, by omega⟩ ⟨l.val % 32, by omega⟩))
      else Ideal.sin (angleIn m c (ix3 ⟨R.val / 8192, by omega⟩ ⟨R.val % 8192, by omega⟩ ⟨l.val % 32, by omega⟩)) := by
  rw [host_split m c 26]
  have h17 := head_sin m c
  have h20 := head_neg m c
  have h21 := head_neg' m c
  generalize StableHlo.after (headOps 26) (fun b => m (c, b)) = σ at h17 h20 h21 ⊢
  generalize angleIn m c = A at h17 h20 h21 ⊢
  simp only [tailOps, hostOps0, hostOps0_1, hostOps0_2, hostOps0_3, hostOps0_4, List.drop_succ_cons, List.drop_zero,
    List.cons_append, List.nil_append]
  entry_read
  refine (show _ = tableOf (σ (Proc.devRef .tc main_v20)) (σ (Proc.devRef .tc main_v17)) (σ (Proc.devRef .tc main_v21))
    (σ (Proc.devRef .tc main_v17)) (ix2 R l) from rfl).trans ?_
  rw [h17, h20, h21, tableOf_at]
  rfl

end Cert.MixInIdeal.Host

end
-- ==== Proof.MixBlocks.lean ====
/- The blocks of each grid point of the projections' kernel, against the reference's rows, weights and tables. -/
module

public import proofs.«01_k».proof.Proof.MixRow
public import proofs.«01_k».proof.Proof.MixHost
public import proofs.«01_k».proof.Proof.MixTables
public import Idealize.ShloMosaic.Lib.Pipeline.ValueKit
public import Idealize.ShloMosaic.Lib.Pointwise

@[expose] public section

set_option maxRecDepth 65536

noncomputable section

open Idealize.ShloMosaic Idealize.ShloMosaic.TcCoe Idealize.SL.Sem
open Idealize.ShloMosaic.Pipeline (Dat)

namespace Cert.MixInIdeal.Value
open Cert.MixInIdeal Cert.MixInIdeal.Gen
open Cert.MixInReferenceIdeal.Value (proj angles queries keys values indexQueries indexKeys recurrence)

variable (m : (ℓ : Loc nD τ sig) → Buf (Elt Ideal) ℓ) (c : Dev nD)

/-- The block of each window at a grid point: the rows move with the point, the weights stay. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![t.val, 0] ∧ win0_8.index t = ![t.val, 0] ∧ win0_9.index t = ![0, 0] ∧ win0_10.index t = ![0, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] :=
  (by decide +kernel : ∀ t : Fin grid0.N, _)

/-- The array's row that a point's row is. -/
abbrev rowAt (t : Fin cfg0.N) (r : Fin 512) : Fin 16384 :=
  ⟨t.val * 512 + r.val, by have : t.val < 32 := t.isLt; omega⟩

set_option maxHeartbeats 1200000 in
/-- Each point finds its rows, the weights, and the tables at its rows. -/
theorem reads (t : Fin cfg0.N) (r : Fin 512) :
    Reads (iblk m c 0 t) (iblk m c 1 t) (iblk m c 2 t) (iblk m c 3 t) (iblk m c 4 t) (iblk m c 5 t) (iblk m c 6 t) (iblk m c 7 t) (iblk m c 8 t) (iblk m c 9 t) (iblk m c 10 t)
      (m ((c.tc : Thread nD τ).loc main_arg0)) (m ((c.tc : Thread nD τ).loc main_arg2)) (m ((c.tc : Thread nD τ).loc main_arg3)) (angles (m ((c.tc : Thread nD τ).loc main_arg1))) (m ((c.tc : Thread nD τ).loc main_arg4)) (m ((c.tc : Thread nD τ).loc main_arg5)) r (rowAt t r) := by
  have ht : t.val < 32 := t.isLt
  constructor
  · intro k
    refine Eq.trans ?_ (Host.rows_at m c (rowAt t r) k)
    blk_simp [iblk]
    generalize V m c main_v34 = T
    blk_point [idx t]
  · intro k
    refine Eq.trans ?_ (Host.gain_at m c k)
    blk_simp [iblk]
    generalize V m c main_v35 = T
    blk_point [idx t]
  · intro k n
    refine Eq.trans ?_ (Host.attention_weights m c k n)
    blk_simp [iblk]
    generalize V m c main_v37 = T
    blk_point [idx t]
  · intro k n
    refine Eq.trans ?_ (Host.indexer_weights m c k n)
    blk_simp [iblk]
    generalize V m c main_v39 = T
    blk_point [idx t]
  · intro k n
    refine Eq.trans ?_ (Host.recurrence_weights m c k n)
    blk_simp [iblk]
    generalize V m c main_v41 = T
    blk_point [idx t]
  · intro l
    refine Eq.trans ?_ (Host.query_gain m c l)
    blk_simp [iblk]
    generalize V m c main_v45 = T
    blk_point [idx t]
  · intro l
    refine Eq.trans ?_ (Host.key_gain m c l)
    blk_simp [iblk]
    generalize V m c main_v49 = T
    blk_point [idx t]
  · intro l
    refine Eq.trans ?_ (Host.cosine_table m c (rowAt t r) l)
    blk_simp [iblk]
    generalize V m c main_v19 = T
    blk_point [idx t]
  · intro l
    refine Eq.trans ?_ (Host.sine_table m c (rowAt t r) l)
    blk_simp [iblk]
    generalize V m c main_v23 = T
    blk_point [idx t]
  · intro k j
    refine Eq.trans ?_ (Host.heads_at m c k j)
    blk_simp [iblk]
    generalize V m c main_v32 = T
    blk_point [idx t]
  · intro j l
    refine Eq.trans ?_ (Host.lanes_at m c j l)
    blk_simp [iblk]
    generalize V m c main_v33 = T
    blk_point [idx t]

end Cert.MixInIdeal.Value

end
-- ==== Proof.MixFinal.lean ====
/- The projections' kernel over its grid: each of its six arrays after the run is the reference's. -/
module

public import proofs.«01_k».proof.Proof.MixBlocks
public import proofs.«01_k».proof.Proof.Gen.MixInIdeal.Value
public import proofs.«01_k».proof.Proof.Gen.MixInReferenceIdeal.Run

@[expose] public section

set_option maxRecDepth 65536

noncomputable section

open Idealize.ShloMosaic Idealize.ShloMosaic.TcCoe Idealize.SL.Sem
open Idealize.ShloMosaic.Pipeline (Dat)

namespace Cert.MixInIdeal.Value
open Cert.MixInIdeal Cert.MixInIdeal.Gen
open Cert.MixInReferenceIdeal.Value (proj angles queries keys values indexQueries indexKeys recurrence)

variable (m : (ℓ : Loc nD τ sig) → Buf (Elt Ideal) ℓ) (c : Dev nD)

set_option maxHeartbeats 1200000 in
/-- The queries after the run. -/
theorem final_queries : (dats m 0 c).arrAt 11 (cfgs 0).N
    = queries (proj (m ((c.tc : Thread nD τ).loc main_arg0)) (m ((c.tc : Thread nD τ).loc main_arg2)) (m ((c.tc : Thread nD τ).loc main_arg3))) (angles (m ((c.tc : Thread nD τ).loc main_arg1))) (m ((c.tc : Thread nD τ).loc main_arg4)) := by
  refine (dats m 0 c).arrAt_eq_of_covers 11 _ (by decide +kernel) fun t _ y => ?_
  blk_simp
  rw [after0_11]
  unfold_out out0_11
  frame_out
  obtain ⟨r, l, rfl⟩ : ∃ (r : Fin 512) (l : Fin 512), y = ix2 r l := ⟨y 0, y 1, eq_ix2 y⟩
  refine (queries_row (reads m c t r) l).trans ?_
  generalize queries (proj (m ((c.tc : Thread nD τ).loc main_arg0)) (m ((c.tc : Thread nD τ).loc main_arg2)) (m ((c.tc : Thread nD τ).loc main_arg3))) (angles (m ((c.tc : Thread nD τ).loc main_arg1))) (m ((c.tc : Thread nD τ).loc main_arg4)) = T
  blk_point [idx t]

set_option maxHeartbeats 1200000 in
/-- The keys after the run. -/
theorem final_keys : (dats m 0 c).arrAt 12 (cfgs 0).N
    = keys (proj (m ((c.tc : Thread nD τ).loc main_arg0)) (m ((c.tc : Thread nD τ).loc main_arg2)) (m ((c.tc : Thread nD τ).loc main_arg3))) (angles (m ((c.tc : Thread nD τ).loc main_arg1))) (m ((c.tc : Thread nD τ).loc main_arg5)) := by
  refine (dats m 0 c).arrAt_eq_of_covers 12 _ (by decide +kernel) fun t _ y => ?_
  blk_simp
  rw [after0_12]
  unfold_out out0_12
  frame_out
  obtain ⟨r, l, rfl⟩ : ∃ (r : Fin 512) (l : Fin 512), y = ix2 r l := ⟨y 0, y 1, eq_ix2 y⟩
  refine (keys_row (reads m c t r) l).trans ?_
  generalize keys (proj (m ((c.tc : Thread nD τ).loc main_arg0)) (m ((c.tc : Thread nD τ).loc main_arg2)) (m ((c.tc : Thread nD τ).loc main_arg3))) (angles (m ((c.tc : Thread nD τ).loc main_arg1))) (m ((c.tc : Thread nD τ).loc main_arg5)) = T
  blk_point [idx t]

set_option maxHeartbeats 1200000 in
/-- The values after the run. -/
theorem final_values : (dats m 0 c).arrAt 13 (cfgs 0).N
    = values (proj (m ((c.tc : Thread nD τ).loc main_arg0)) (m ((c.tc : Thread nD τ).loc main_arg2)) (m ((c.tc : Thread nD τ).loc main_arg3))) := by
  refine (dats m 0 c).arrAt_eq_of_covers 13 _ (by decide +kernel) fun t _ y => ?_
  blk_simp
  rw [after0_13]
  unfold_out out0_13
  frame_out
  obtain ⟨r, l, rfl⟩ : ∃ (r : Fin 512) (l : Fin 512), y = ix2 r l := ⟨y 0, y 1, eq_ix2 y⟩
  refine (values_row (reads m c t r) l).trans ?_
  generalize values (proj (m ((c.tc : Thread nD τ).loc main_arg0)) (m ((c.tc : Thread nD τ).loc main_arg2)) (m ((c.tc : Thread nD τ).loc main_arg3))) = T
  blk_point [idx t]

set_option maxHeartbeats 1200000 in
/-- The index queries after the run. -/
theorem final_indexQueries : (dats m 0 c).arrAt 14 (cfgs 0).N
    = indexQueries (proj (m ((c.tc : Thread nD τ).loc main_arg0)) (m ((c.tc : Thread nD τ).loc main_arg2)) (m ((c.tc : Thread nD τ).loc main_arg3))) (angles (m ((c.tc : Thread nD τ).loc main_arg1))) := by
  refine (dats m 0 c).arrAt_eq_of_covers 14 _ (by decide +kernel) fun t _ y => ?_
  blk_simp
  rw [after0_14]
  unfold_out out0_14
  frame_out
  obtain ⟨r, l, rfl⟩ : ∃ (r : Fin 512) (l : Fin 256), y = ix2 r l := ⟨y 0, y 1, eq_ix2 y⟩
  refine (indexQueries_row (reads m c t r) l).trans ?_
  generalize indexQueries (proj (m ((c.tc : Thread nD τ).loc main_arg0)) (m ((c.tc : Thread nD τ).loc main_arg2)) (m ((c.tc : Thread nD τ).loc main_arg3))) (angles (m ((c.tc : Thread nD τ).loc main_arg1))) = T
  blk_point [idx t]

set_option maxHeartbeats 1200000 in
/-- The index keys and weights after the run. -/
theorem final_indexKeys : (dats m 0 c).arrAt 15 (cfgs 0).N
    = indexKeys (proj (m ((c.tc : Thread nD τ).loc main_arg0)) (m ((c.tc : Thread nD τ).loc main_arg2)) (m ((c.tc : Thread nD τ).loc main_arg3))) (angles (m ((c.tc : Thread nD τ).loc main_arg1))) := by
  refine (dats m 0 c).arrAt_eq_of_covers 15 _ (by decide +kernel) fun t _ y => ?_
  blk_simp
  rw [after0_15]
  unfold_out out0_15
  frame_out
  obtain ⟨r, l, rfl⟩ : ∃ (r : Fin 512) (l : Fin 128), y = ix2 r l := ⟨y 0, y 1, eq_ix2 y⟩
  refine (indexKeys_row (reads m c t r) l).trans ?_
  generalize indexKeys (proj (m ((c.tc : Thread nD τ).loc main_arg0)) (m ((c.tc : Thread nD τ).loc main_arg2)) (m ((c.tc : Thread nD τ).loc main_arg3))) (angles (m ((c.tc : Thread nD τ).loc main_arg1))) = T
  blk_point [idx t]

set_option maxHeartbeats 1200000 in
/-- The recurrence's columns after the run. -/
theorem final_recurrence : (dats m 0 c).arrAt 16 (cfgs 0).N
    = recurrence (proj (m ((c.tc : Thread nD τ).loc main_arg0)) (m ((c.tc : Thread nD τ).loc main_arg2)) (m ((c.tc : Thread nD τ).loc main_arg3))) := by
  refine (dats m 0 c).arrAt_eq_of_covers 16 _ (by decide +kernel) fun t _ y => ?_
  blk_simp
  rw [after0_16]
  unfold_out out0_16
  frame_out
  obtain ⟨r, l, rfl⟩ : ∃ (r : Fin 512) (l : Fin 2048), y = ix2 r l := ⟨y 0, y 1, eq_ix2 y⟩
  refine (recurrence_row (reads m c t r) l).trans ?_
  generalize recurrence (proj (m ((c.tc : Thread nD τ).loc main_arg0)) (m ((c.tc : Thread nD τ).loc main_arg2)) (m ((c.tc : Thread nD τ).loc main_arg3))) = T
  blk_point [idx t]

end Cert.MixInIdeal.Value

namespace Cert.MixInReferenceIdeal.Value
open Cert.MixInReferenceIdeal Cert.MixInReferenceIdeal.Gen

/-- The reference's run, its six results by name. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v130) = queries (proj (m ((c.tc : Thread nD τ).loc main_arg0)) (m ((c.tc : Thread nD τ).loc main_arg2)) (m ((c.tc : Thread nD τ).loc main_arg3))) (angles (m ((c.tc : Thread nD τ).loc main_arg1))) (m ((c.tc : Thread nD τ).loc main_arg4))
      ∧ r.2.mem ((c.tc : Thread nD τ).loc main_v132) = keys (proj (m ((c.tc : Thread nD τ).loc main_arg0)) (m ((c.tc : Thread nD τ).loc main_arg2)) (m ((c.tc : Thread nD τ).loc main_arg3))) (angles (m ((c.tc : Thread nD τ).loc main_arg1))) (m ((c.tc : Thread nD τ).loc main_arg5))
      ∧ r.2.mem ((c.tc : Thread nD τ).loc main_v134) = values (proj (m ((c.tc : Thread nD τ).loc main_arg0)) (m ((c.tc : Thread nD τ).loc main_arg2)) (m ((c.tc : Thread nD τ).loc main_arg3)))
      ∧ r.2.mem ((c.tc : Thread nD τ).loc main_v135) = indexQueries (proj (m ((c.tc : Thread nD τ).loc main_arg0)) (m ((c.tc : Thread nD τ).loc main_arg2)) (m ((c.tc : Thread nD τ).loc main_arg3))) (angles (m ((c.tc : Thread nD τ).loc main_arg1)))
      ∧ r.2.mem ((c.tc : Thread nD τ).loc main_v136) = indexKeys (proj (m ((c.tc : Thread nD τ).loc main_arg0)) (m ((c.tc : Thread nD τ).loc main_arg2)) (m ((c.tc : Thread nD τ).loc main_arg3))) (angles (m ((c.tc : Thread nD τ).loc main_arg1)))
      ∧ r.2.mem ((c.tc : Thread nD τ).loc main_v137) = recurrence (proj (m ((c.tc : Thread nD τ).loc main_arg0)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (by unfold res_main_v130; rfl), (h c).2.1.trans (by unfold res_main_v132; rfl),
    (h c).2.2.1, (h c).2.2.2.1.trans (by unfold res_main_v135; rfl), (h c).2.2.2.2.1.trans (by unfold res_main_v136; rfl),
    (h c).2.2.2.2.2⟩) (run m ρ)

end Cert.MixInReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeReferenceIdeal
public import proofs.«01_k».proof.Proof.Gen.Pre_hgrn_domain
public import proofs.«01_k».proof.Proof.Gen.KernelIdeal.Value
public import proofs.«01_k».proof.Proof.Gen.FfnIdeal.Value
public import proofs.«01_k».proof.Proof.Gen.MergeIdeal.Value
public import proofs.«01_k».proof.Proof.Gen.FfnReferenceIdeal.Run
public import proofs.«01_k».proof.Proof.Gen.MergeReferenceIdeal.Run
public import proofs.«01_k».proof.Proof.Gen.ReferenceIdeal.Run
public import proofs.«01_k».proof.Proof.Gen.ReferenceIdeal.Step
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInIdeal.Frame
public import proofs.«01_k».proof.Proof.Gen.MixInIdeal.Value
public import proofs.«01_k».proof.Proof.Gen.MixInReferenceIdeal
public import proofs.«01_k».proof.Proof.Gen.MixInReferenceIdeal.Run
public import proofs.«01_k».proof.Proof.RefRun
public import proofs.«01_k».proof.Proof.FfnValue
public import proofs.«01_k».proof.Proof.MergeValue
public import proofs.«01_k».proof.Proof.HgrnFinal
public import proofs.«01_k».proof.Proof.MixFinal
public import Idealize.ShloMosaic.Adequacy
public import Idealize.ShloMosaic.Init

@[expose] public section

noncomputable section

namespace Cert.Proof

open Idealize.ShloMosaic Idealize.SL.Sem Cert.Kernel

/-- The recurrence's reference ends with its arguments unchanged and every counter at zero: it declares none. -/
theorem frame_hgrn_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The feed-forward block's reference ends with its arguments unchanged and every counter at zero. -/
theorem frame_ffn_ref : Cert.quiescent_FfnReferenceIdeal (hFfnReferenceIdeal := Cert.FfnReferenceIdeal.Gen.facts) := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- The merge's reference ends with its arguments unchanged and every counter at zero. -/
theorem frame_merge_ref : Cert.quiescent_MergeReferenceIdeal (hMergeReferenceIdeal := Cert.MergeReferenceIdeal.Gen.facts) :=
  fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- The projections' reference keeps its arguments. -/
theorem frame_mix_ref : Cert.quiescent_MixInReferenceIdeal (hMixInReferenceIdeal := Cert.MixInReferenceIdeal.Gen.facts) :=
  fun m ρ _ =>
  (θ_run Cert.MixInReferenceIdeal.defs _ _).mono
    (fun r h => ⟨fun c => (h c).2.2.2.2.2.2, sem_eq_zero_of_no_sems (by decide) r.2⟩)
    (Cert.MixInReferenceIdeal.Value.run (F := Ideal) m ρ)

/-- The feed-forward kernel and its reference end with the same array. -/
theorem algebraic_ffn : Cert.algebraic_FfnIdeal_FfnReferenceIdeal (hFfnIdeal := Cert.FfnIdeal.Gen.facts)
    (hFfnReferenceIdeal := Cert.FfnReferenceIdeal.Gen.facts) := by
  pair_intro
  · run_from Cert.FfnIdeal.Value.run_blocks m g
  · run_from Cert.FfnReferenceIdeal.Value.run m' g'
    exact (Cert.FfnIdeal.Value.final m c).symm

/-- The merge kernel and its reference end with the same array. -/
theorem algebraic_merge : Cert.algebraic_MergeIdeal_MergeReferenceIdeal (hMergeIdeal := Cert.MergeIdeal.Gen.facts)
    (hMergeReferenceIdeal := Cert.MergeReferenceIdeal.Gen.facts) := by
  pair_intro
  · run_from Cert.MergeIdeal.Value.run_blocks m g
  · run_from Cert.MergeReferenceIdeal.Value.run m' g'
    exact (Cert.MergeIdeal.Value.final m c).symm

/-- The projections' kernel and its reference end with the same six arrays. -/
theorem algebraic_mix : Cert.algebraic_MixInIdeal_MixInReferenceIdeal (hMixInIdeal := Cert.MixInIdeal.Gen.facts)
    (hMixInReferenceIdeal := Cert.MixInReferenceIdeal.Gen.facts) := by
  pair_intro
  · run_from Cert.MixInIdeal.Value.run_blocks m g
  · run_from Cert.MixInReferenceIdeal.Value.run_values m' g'
    · exact (Cert.MixInIdeal.Value.final_queries m c).symm
    · exact (Cert.MixInIdeal.Value.final_keys m c).symm
    · exact (Cert.MixInIdeal.Value.final_values m c).symm
    · exact (Cert.MixInIdeal.Value.final_indexQueries m c).symm
    · exact (Cert.MixInIdeal.Value.final_indexKeys m c).symm
    · exact (Cert.MixInIdeal.Value.final_recurrence m c).symm

/-- The recurrence's kernel and its reference end with the same array, where the precondition holds. -/
theorem algebraic_hgrn : Cert.algebraic_KernelIdeal_ReferenceIdeal_pre_hgrn_domain (hKernelIdeal := Cert.KernelIdeal.Gen.facts)
    (hReferenceIdeal := Cert.ReferenceIdeal.Gen.facts) (hPre_hgrn_domain := Cert.Pre_hgrn_domain.Gen.facts) := by
  intro m g m' g' hpre hargs
  refine ⟨fun c => Cert.KernelIdeal.Value.G6 m c, Cert.KernelIdeal.Value.run m g, ?_⟩
  refine (θ_run Cert.ReferenceIdeal.defs _ _).mono (fun r h c => ⟨(h c).1.trans ?_, (h c).2⟩)
    (Cert.ReferenceIdeal.Iter.run_states m' g')
  exact Cert.Hgrn.arrays_eq m m' c (hargs c) (hpre c)

theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts, Cert.Merge.Gen.facts, Cert.MergeIdeal.Gen.facts, Cert.MergeReferenceIdeal.Gen.facts, Cert.MixIn.Gen.facts, Cert.MixInIdeal.Gen.facts, Cert.MixInReferenceIdeal.Gen.facts, Cert.Pre_hgrn_domain.Gen.facts,
  fun m ρ _ => Cert.Kernel.Gen.frame m ρ,
  fun m ρ _ => Cert.KernelIdeal.Gen.frame m ρ,
  fun m ρ _ => Cert.KernelIdeal.Gen.frame m ρ,
  frame_hgrn_ref,
  fun m ρ _ => frame_hgrn_ref m ρ trivial,
  fun m ρ _ => Cert.Ffn.Gen.frame m ρ,
  fun m ρ _ => Cert.FfnIdeal.Gen.frame m ρ,
  frame_ffn_ref,
  fun m ρ _ => Cert.Merge.Gen.frame m ρ,
  fun m ρ _ => Cert.MergeIdeal.Gen.frame m ρ,
  frame_merge_ref,
  fun m ρ _ => Cert.MixIn.Gen.frame m ρ,
  fun m ρ _ => Cert.MixInIdeal.Gen.frame m ρ,
  frame_mix_ref,
  trivial,
  algebraic_hgrn,
  trivial,
  algebraic_ffn,
  trivial,
  algebraic_merge,
  trivial,
  algebraic_mix⟩

end Cert.Proof

end
